-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2x50000x1 : Shape := ⟨4, ![1, 2, 50000, 1]⟩
abbrev S1x14x50000x1 : Shape := ⟨4, ![1, 14, 50000, 1]⟩
abbrev S100000x7 : Shape := ⟨2, ![100000, 7]⟩
abbrev S1x50000x1x2 : Shape := ⟨4, ![1, 50000, 1, 2]⟩
abbrev S1x100000 : Shape := ⟨2, ![1, 100000]⟩
abbrev S_ : Shape := ⟨0, ![]⟩
abbrev S1x2x7x50000x1 : Shape := ⟨5, ![1, 2, 7, 50000, 1]⟩
abbrev S1x50000x1x2x7 : Shape := ⟨5, ![1, 50000, 1, 2, 7]⟩
abbrev S1x100000x7 : Shape := ⟨3, ![1, 100000, 7]⟩
abbrev S1x2000 : Shape := ⟨2, ![1, 2000]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S2000x7 : Shape := ⟨2, ![2000, 7]⟩
abbrev S7x2000 : Shape := ⟨2, ![7, 2000]⟩
abbrev S5x2000 : Shape := ⟨2, ![5, 2000]⟩
abbrev S5 : Shape := ⟨1, ![5]⟩
abbrev S5x1 : Shape := ⟨2, ![5, 1]⟩
abbrev S1x1x2000 : Shape := ⟨3, ![1, 1, 2000]⟩
abbrev S1x1x1 : Shape := ⟨3, ![1, 1, 1]⟩
abbrev S500 : Shape := ⟨1, ![500]⟩
abbrev S500x1 : Shape := ⟨2, ![500, 1]⟩
abbrev S500x7 : Shape := ⟨2, ![500, 7]⟩
abbrev S500x8 : Shape := ⟨2, ![500, 8]⟩

abbrev nBuf : Space → Nat
  | .hbm => 130
  | .vmem => 5
  | .smem => 0
  | _ => 0

abbrev hbmTy0_0 (i : Nat) : BufTy := match i % 128 with
  | 0 => ⟨S1x2x50000x1, .f32⟩
  | 1 => ⟨S1x14x50000x1, .f32⟩
  | 2 => ⟨S100000x7, .f32⟩
  | 3 => ⟨S1x50000x1x2, .f32⟩
  | 4 => ⟨S1x100000, .f32⟩
  | 5 => ⟨S1x100000, .f32⟩
  | 6 => ⟨S1x100000, .f32⟩
  | 7 => ⟨S_, .f32⟩
  | 8 => ⟨S1x100000, .f32⟩
  | 9 => ⟨S1x100000, .f32⟩
  | 10 => ⟨S_, .f32⟩
  | 11 => ⟨S1x100000, .f32⟩
  | 12 => ⟨S1x100000, .f32⟩
  | 13 => ⟨S1x2x7x50000x1, .f32⟩
  | 14 => ⟨S1x50000x1x2x7, .f32⟩
  | 15 => ⟨S1x100000x7, .f32⟩
  | 16 => ⟨S1x2000, .f32⟩
  | 17 => ⟨S1x2000, .i32⟩
  | 18 => ⟨S100000x7, .f32⟩
  | 19 => ⟨S2000, .i32⟩
  | 20 => ⟨S_, .i32⟩
  | 21 => ⟨S2000, .i32⟩
  | 22 => ⟨S2000, .i1⟩
  | 23 => ⟨S_, .i32⟩
  | 24 => ⟨S2000, .i32⟩
  | 25 => ⟨S2000, .i32⟩
  | 26 => ⟨S2000, .i32⟩
  | 27 => ⟨S2000x1, .i32⟩
  | 28 => ⟨S1, .i32⟩
  | 29 => ⟨S_, .i32⟩
  | 30 => ⟨S2000x1, .i32⟩
  | 31 => ⟨S2000x1, .i1⟩
  | 32 => ⟨S1x1, .i32⟩
  | 33 => ⟨S2000x1, .i32⟩
  | 34 => ⟨S2000x1, .i1⟩
  | 35 => ⟨S2000x1, .i1⟩
  | 36 => ⟨S_, .i1⟩
  | 37 => ⟨S2000, .i1⟩
  | 38 => ⟨S2000x7, .f32⟩
  | 39 => ⟨S2000x7, .i1⟩
  | 40 => ⟨S_, .f32⟩
  | 41 => ⟨S2000x7, .f32⟩
  | 42 => ⟨S2000x7, .f32⟩
  | 43 => ⟨S7x2000, .f32⟩
  | 44 => ⟨S2000, .i32⟩
  | 45 => ⟨S_, .i32⟩
  | 46 => ⟨S2000, .i32⟩
  | 47 => ⟨S2000, .i1⟩
  | 48 => ⟨S_, .i32⟩
  | 49 => ⟨S2000, .i32⟩
  | 50 => ⟨S2000, .i32⟩
  | 51 => ⟨S2000, .i32⟩
  | 52 => ⟨S2000x1, .i32⟩
  | 53 => ⟨S1, .i32⟩
  | 54 => ⟨S_, .i32⟩
  | 55 => ⟨S2000x1, .i32⟩
  | 56 => ⟨S2000x1, .i1⟩
  | 57 => ⟨S1x1, .i32⟩
  | 58 => ⟨S2000x1, .i32⟩
  | 59 => ⟨S2000x1, .i1⟩
  | 60 => ⟨S2000x1, .i1⟩
  | 61 => ⟨S_, .i1⟩
  | 62 => ⟨S2000, .i1⟩
  | 63 => ⟨S2000x7, .f32⟩
  | 64 => ⟨S2000x7, .i1⟩
  | 65 => ⟨S_, .f32⟩
  | 66 => ⟨S2000x7, .f32⟩
  | 67 => ⟨S2000x7, .f32⟩
  | 68 => ⟨S7x2000, .f32⟩
  | 69 => ⟨S7x2000, .f32⟩
  | 70 => ⟨S1x2000, .f32⟩
  | 71 => ⟨S2000, .f32⟩
  | 72 => ⟨S2000, .f32⟩
  | 73 => ⟨S_, .f32⟩
  | 74 => ⟨S2000, .f32⟩
  | 75 => ⟨S2000, .i1⟩
  | 76 => ⟨S_, .f32⟩
  | 77 => ⟨S_, .f32⟩
  | 78 => ⟨S2000, .f32⟩
  | 79 => ⟨S2000, .f32⟩
  | 80 => ⟨S500, .f32⟩
  | 81 => ⟨S500, .i32⟩
  | 82 => ⟨S2000x7, .f32⟩
  | 83 => ⟨S_, .i32⟩
  | 84 => ⟨S500, .i32⟩
  | 85 => ⟨S500, .i1⟩
  | 86 => ⟨S_, .i32⟩
  | 87 => ⟨S500, .i32⟩
  | 88 => ⟨S500, .i32⟩
  | 89 => ⟨S500, .i32⟩
  | 90 => ⟨S500x1, .i32⟩
  | 91 => ⟨S1, .i32⟩
  | 92 => ⟨S_, .i32⟩
  | 93 => ⟨S500x1, .i32⟩
  | 94 => ⟨S500x1, .i1⟩
  | 95 => ⟨S1x1, .i32⟩
  | 96 => ⟨S500x1, .i32⟩
  | 97 => ⟨S500x1, .i1⟩
  | 98 => ⟨S500x1, .i1⟩
  | 99 => ⟨S_, .i1⟩
  | 100 => ⟨S500, .i1⟩
  | 101 => ⟨S500x7, .f32⟩
  | 102 => ⟨S500x7, .i1⟩
  | 103 => ⟨S_, .f32⟩
  | 104 => ⟨S500x7, .f32⟩
  | 105 => ⟨S500x7, .f32⟩
  | 106 => ⟨S_, .i32⟩
  | 107 => ⟨S500, .i32⟩
  | 108 => ⟨S500, .i1⟩
  | 109 => ⟨S_, .i32⟩
  | 110 => ⟨S500, .i32⟩
  | 111 => ⟨S500, .i32⟩
  | 112 => ⟨S500, .i32⟩
  | 113 => ⟨S500x1, .i32⟩
  | 114 => ⟨S1, .i32⟩
  | 115 => ⟨S_, .i32⟩
  | 116 => ⟨S500x1, .i32⟩
  | 117 => ⟨S500x1, .i1⟩
  | 118 => ⟨S1x1, .i32⟩
  | 119 => ⟨S500x1, .i32⟩
  | 120 => ⟨S500x1, .i1⟩
  | 121 => ⟨S500x1, .i1⟩
  | 122 => ⟨S_, .i1⟩
  | 123 => ⟨S500, .i1⟩
  | 124 => ⟨S500, .f32⟩
  | 125 => ⟨S_, .f32⟩
  | 126 => ⟨S500, .f32⟩
  | 127 => ⟨S500, .f32⟩
  | _ => ⟨S1x2x50000x1, .f32⟩

abbrev hbmTy0_1 (i : Nat) : BufTy := match i % 128 with
  | 0 => ⟨S500x1, .f32⟩
  | 1 => ⟨S500x8, .f32⟩
  | _ => ⟨S1x2x50000x1, .f32⟩

abbrev hbmTy (i : Nat) : BufTy := match i / 128 with
  | 0 => hbmTy0_0 i
  | 1 => hbmTy0_1 i
  | _ => ⟨S1x2x50000x1, .f32⟩

abbrev bufTy : (tb : Table) → Fin (tcTables nBuf tb) → BufTy
  | .hbm, ⟨i, _⟩ => hbmTy i
  | .local _ .vmem, ⟨0, _⟩ => ⟨S1x2000, .f32⟩
  | .local _ .vmem, ⟨1, _⟩ => ⟨S7x2000, .f32⟩
  | .local _ .vmem, ⟨2, _⟩ => ⟨S7x2000, .f32⟩
  | .local _ .vmem, ⟨3, _⟩ => ⟨S7x2000, .f32⟩
  | .local _ .vmem, ⟨4, _⟩ => ⟨S1x2000, .f32⟩
  | _, _ => ⟨S1x2x50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_values : Ref sig .tc := ⟨.hbm, 16, rfl⟩
abbrev main_indices : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v16 : Ref sig .tc := ⟨.hbm, 67, rfl⟩
abbrev main_v17 : Ref sig .tc := ⟨.hbm, 68, rfl⟩
abbrev main_v18_0 : Ref sig .tc := ⟨.hbm, 69, rfl⟩
abbrev main_v18_1 : Ref sig .tc := ⟨.hbm, 70, rfl⟩
abbrev main_v19 : Ref sig .tc := ⟨.hbm, 71, rfl⟩
abbrev main_v20 : Ref sig .tc := ⟨.hbm, 72, rfl⟩
abbrev main_cst_1 : Ref sig .tc := ⟨.hbm, 73, rfl⟩
abbrev main_v21 : Ref sig .tc := ⟨.hbm, 74, rfl⟩
abbrev main_v22 : Ref sig .tc := ⟨.hbm, 75, rfl⟩
abbrev main_cst_2 : Ref sig .tc := ⟨.hbm, 76, rfl⟩
abbrev main_call2_v0 : Ref sig .tc := ⟨.hbm, 77, rfl⟩
abbrev main_call2_v1 : Ref sig .tc := ⟨.hbm, 78, rfl⟩
abbrev main_v23 : Ref sig .tc := ⟨.hbm, 79, rfl⟩
abbrev main_values_3 : Ref sig .tc := ⟨.hbm, 80, rfl⟩
abbrev main_indices_4 : Ref sig .tc := ⟨.hbm, 81, rfl⟩
abbrev main_v24 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v25 : Ref sig .tc := ⟨.hbm, 105, rfl⟩
abbrev main_call4_c : Ref sig .tc := ⟨.hbm, 106, rfl⟩
abbrev main_call4_v0 : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_c_1 : Ref sig .tc := ⟨.hbm, 114, rfl⟩
abbrev main_call4_c_2 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_3 : Ref sig .tc := ⟨.hbm, 122, rfl⟩
abbrev main_call4_v12 : Ref sig .tc := ⟨.hbm, 123, rfl⟩
abbrev main_call4_v13 : Ref sig .tc := ⟨.hbm, 124, rfl⟩
abbrev main_call4_cst : Ref sig .tc := ⟨.hbm, 125, rfl⟩
abbrev main_call4_v14 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2000_i32 : BitVec 32 := 2000#32
  let v53 : BitVec 32 := Scalar.addi c0_i32 c2000_i32
  let c1_i32 : BitVec 32 := 1#32
  ⟨c0_i32, v53, c1_i32⟩
abbrev stage0_0 : Fin 1 → Memref sig .tc .vmem S1x2000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x2000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x2x50000x1 : Shape := ⟨4, ![1, 2, 50000, 1]⟩
abbrev S1x14x50000x1 : Shape := ⟨4, ![1, 14, 50000, 1]⟩
abbrev S100000x7 : Shape := ⟨2, ![100000, 7]⟩
abbrev S1x50000x1x2 : Shape := ⟨4, ![1, 50000, 1, 2]⟩
abbrev S1x100000 : Shape := ⟨2, ![1, 100000]⟩
abbrev S_ : Shape := ⟨0, ![]⟩
abbrev S1x2x7x50000x1 : Shape := ⟨5, ![1, 2, 7, 50000, 1]⟩
abbrev S1x50000x1x2x7 : Shape := ⟨5, ![1, 50000, 1, 2, 7]⟩
abbrev S1x100000x7 : Shape := ⟨3, ![1, 100000, 7]⟩
abbrev S1x2000 : Shape := ⟨2, ![1, 2000]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S2000x7 : Shape := ⟨2, ![2000, 7]⟩
abbrev S2000x2000 : Shape := ⟨2, ![2000, 2000]⟩
abbrev S500 : Shape := ⟨1, ![500]⟩
abbrev S500x1 : Shape := ⟨2, ![500, 1]⟩
abbrev S500x7 : Shape := ⟨2, ![500, 7]⟩
abbrev S500x8 : Shape := ⟨2, ![500, 8]⟩

abbrev nBuf : Space → Nat
  | .hbm => 291
  | .vmem => 0
  | .smem => 0
  | _ => 0

abbrev hbmTy0_0 (i : Nat) : BufTy := match i % 128 with
  | 0 => ⟨S1x2x50000x1, .f32⟩
  | 1 => ⟨S1x14x50000x1, .f32⟩
  | 2 => ⟨S100000x7, .f32⟩
  | 3 => ⟨S1x50000x1x2, .f32⟩
  | 4 => ⟨S1x100000, .f32⟩
  | 5 => ⟨S1x100000, .f32⟩
  | 6 => ⟨S1x100000, .f32⟩
  | 7 => ⟨S_, .f32⟩
  | 8 => ⟨S1x100000, .f32⟩
  | 9 => ⟨S1x100000, .f32⟩
  | 10 => ⟨S_, .f32⟩
  | 11 => ⟨S1x100000, .f32⟩
  | 12 => ⟨S1x100000, .f32⟩
  | 13 => ⟨S1x2x7x50000x1, .f32⟩
  | 14 => ⟨S1x50000x1x2x7, .f32⟩
  | 15 => ⟨S1x100000x7, .f32⟩
  | 16 => ⟨S1x2000, .f32⟩
  | 17 => ⟨S1x2000, .i32⟩
  | 18 => ⟨S100000x7, .f32⟩
  | 19 => ⟨S2000, .i32⟩
  | 20 => ⟨S_, .i32⟩
  | 21 => ⟨S2000, .i32⟩
  | 22 => ⟨S2000, .i1⟩
  | 23 => ⟨S_, .i32⟩
  | 24 => ⟨S2000, .i32⟩
  | 25 => ⟨S2000, .i32⟩
  | 26 => ⟨S2000, .i32⟩
  | 27 => ⟨S2000x1, .i32⟩
  | 28 => ⟨S1, .i32⟩
  | 29 => ⟨S_, .i32⟩
  | 30 => ⟨S2000x1, .i32⟩
  | 31 => ⟨S2000x1, .i1⟩
  | 32 => ⟨S1x1, .i32⟩
  | 33 => ⟨S2000x1, .i32⟩
  | 34 => ⟨S2000x1, .i1⟩
  | 35 => ⟨S2000x1, .i1⟩
  | 36 => ⟨S_, .i1⟩
  | 37 => ⟨S2000, .i1⟩
  | 38 => ⟨S2000x7, .f32⟩
  | 39 => ⟨S2000x7, .i1⟩
  | 40 => ⟨S_, .f32⟩
  | 41 => ⟨S2000x7, .f32⟩
  | 42 => ⟨S2000x7, .f32⟩
  | 43 => ⟨S2000, .i32⟩
  | 44 => ⟨S_, .i32⟩
  | 45 => ⟨S2000, .i32⟩
  | 46 => ⟨S2000, .i1⟩
  | 47 => ⟨S_, .i32⟩
  | 48 => ⟨S2000, .i32⟩
  | 49 => ⟨S2000, .i32⟩
  | 50 => ⟨S2000, .i32⟩
  | 51 => ⟨S2000x1, .i32⟩
  | 52 => ⟨S1, .i32⟩
  | 53 => ⟨S_, .i32⟩
  | 54 => ⟨S2000x1, .i32⟩
  | 55 => ⟨S2000x1, .i1⟩
  | 56 => ⟨S1x1, .i32⟩
  | 57 => ⟨S2000x1, .i32⟩
  | 58 => ⟨S2000x1, .i1⟩
  | 59 => ⟨S2000x1, .i1⟩
  | 60 => ⟨S_, .i1⟩
  | 61 => ⟨S2000, .i1⟩
  | 62 => ⟨S2000x7, .f32⟩
  | 63 => ⟨S2000x7, .i1⟩
  | 64 => ⟨S_, .f32⟩
  | 65 => ⟨S2000x7, .f32⟩
  | 66 => ⟨S2000x7, .f32⟩
  | 67 => ⟨S2000x1, .f32⟩
  | 68 => ⟨S2000, .f32⟩
  | 69 => ⟨S2000x1, .f32⟩
  | 70 => ⟨S2000, .f32⟩
  | 71 => ⟨S2000x1, .f32⟩
  | 72 => ⟨S2000, .f32⟩
  | 73 => ⟨S2000x1, .f32⟩
  | 74 => ⟨S2000, .f32⟩
  | 75 => ⟨S2000x1, .f32⟩
  | 76 => ⟨S2000, .f32⟩
  | 77 => ⟨S2000x1, .f32⟩
  | 78 => ⟨S2000, .f32⟩
  | 79 => ⟨S2000x1, .f32⟩
  | 80 => ⟨S2000, .f32⟩
  | 81 => ⟨S2000x1, .f32⟩
  | 82 => ⟨S2000, .f32⟩
  | 83 => ⟨S2000x1, .f32⟩
  | 84 => ⟨S2000, .f32⟩
  | 85 => ⟨S2000x1, .f32⟩
  | 86 => ⟨S2000, .f32⟩
  | 87 => ⟨S2000x1, .f32⟩
  | 88 => ⟨S2000, .f32⟩
  | 89 => ⟨S2000x1, .f32⟩
  | 90 => ⟨S2000, .f32⟩
  | 91 => ⟨S2000x1, .f32⟩
  | 92 => ⟨S2000, .f32⟩
  | 93 => ⟨S2000x1, .f32⟩
  | 94 => ⟨S2000, .f32⟩
  | 95 => ⟨S2000, .f32⟩
  | 96 => ⟨S2000, .f32⟩
  | 97 => ⟨S2000, .f32⟩
  | 98 => ⟨S2000, .f32⟩
  | 99 => ⟨S2000, .f32⟩
  | 100 => ⟨S2000, .f32⟩
  | 101 => ⟨S2000, .f32⟩
  | 102 => ⟨S2000, .f32⟩
  | 103 => ⟨S2000, .f32⟩
  | 104 => ⟨S2000, .f32⟩
  | 105 => ⟨S2000, .f32⟩
  | 106 => ⟨S2000, .f32⟩
  | 107 => ⟨S2000, .f32⟩
  | 108 => ⟨S2000, .f32⟩
  | 109 => ⟨S2000, .f32⟩
  | 110 => ⟨S2000, .f32⟩
  | 111 => ⟨S2000, .f32⟩
  | 112 => ⟨S2000x1, .f32⟩
  | 113 => ⟨S2000x1, .f32⟩
  | 114 => ⟨S2000x1, .f32⟩
  | 115 => ⟨S2000x1, .f32⟩
  | 116 => ⟨S2000x1, .f32⟩
  | 117 => ⟨S2000x1, .f32⟩
  | 118 => ⟨S2000x1, .f32⟩
  | 119 => ⟨S2000x7, .f32⟩
  | 120 => ⟨S2000, .f32⟩
  | 121 => ⟨S2000x1, .f32⟩
  | 122 => ⟨S2000, .f32⟩
  | 123 => ⟨S2000x1, .f32⟩
  | 124 => ⟨S2000, .f32⟩
  | 125 => ⟨S2000x1, .f32⟩
  | 126 => ⟨S2000, .f32⟩
  | 127 => ⟨S2000x1, .f32⟩
  | _ => ⟨S1x2x50000x1, .f32⟩

abbrev hbmTy0_1 (i : Nat) : BufTy := match i % 128 with
  | 0 => ⟨S2000, .f32⟩
  | 1 => ⟨S_, .f32⟩
  | 2 => ⟨S2000, .f32⟩
  | 3 => ⟨S2000, .f32⟩
  | 4 => ⟨S2000, .f32⟩
  | 5 => ⟨S_, .f32⟩
  | 6 => ⟨S2000, .f32⟩
  | 7 => ⟨S2000, .f32⟩
  | 8 => ⟨S2000, .f32⟩
  | 9 => ⟨S_, .f32⟩
  | 10 => ⟨S2000, .f32⟩
  | 11 => ⟨S2000, .f32⟩
  | 12 => ⟨S2000, .f32⟩
  | 13 => ⟨S_, .f32⟩
  | 14 => ⟨S2000, .f32⟩
  | 15 => ⟨S2000, .f32⟩
  | 16 => ⟨S2000, .f32⟩
  | 17 => ⟨S2000, .f32⟩
  | 18 => ⟨S2000x1, .f32⟩
  | 19 => ⟨S1x2000, .f32⟩
  | 20 => ⟨S2000x2000, .f32⟩
  | 21 => ⟨S2000x2000, .f32⟩
  | 22 => ⟨S2000x2000, .f32⟩
  | 23 => ⟨S2000x1, .f32⟩
  | 24 => ⟨S1x2000, .f32⟩
  | 25 => ⟨S2000x2000, .f32⟩
  | 26 => ⟨S2000x2000, .f32⟩
  | 27 => ⟨S2000x2000, .f32⟩
  | 28 => ⟨S2000x2000, .f32⟩
  | 29 => ⟨S_, .f32⟩
  | 30 => ⟨S_, .f32⟩
  | 31 => ⟨S2000x2000, .f32⟩
  | 32 => ⟨S2000x2000, .f32⟩
  | 33 => ⟨S2000x1, .f32⟩
  | 34 => ⟨S1x2000, .f32⟩
  | 35 => ⟨S2000x2000, .f32⟩
  | 36 => ⟨S2000x2000, .f32⟩
  | 37 => ⟨S2000x2000, .f32⟩
  | 38 => ⟨S2000x1, .f32⟩
  | 39 => ⟨S1x2000, .f32⟩
  | 40 => ⟨S2000x2000, .f32⟩
  | 41 => ⟨S2000x2000, .f32⟩
  | 42 => ⟨S2000x2000, .f32⟩
  | 43 => ⟨S2000x2000, .f32⟩
  | 44 => ⟨S_, .f32⟩
  | 45 => ⟨S_, .f32⟩
  | 46 => ⟨S2000x2000, .f32⟩
  | 47 => ⟨S2000x2000, .f32⟩
  | 48 => ⟨S2000x2000, .f32⟩
  | 49 => ⟨S2000x1, .f32⟩
  | 50 => ⟨S1x2000, .f32⟩
  | 51 => ⟨S2000x2000, .f32⟩
  | 52 => ⟨S2000x2000, .f32⟩
  | 53 => ⟨S2000x2000, .f32⟩
  | 54 => ⟨S2000x2000, .f32⟩
  | 55 => ⟨S_, .f32⟩
  | 56 => ⟨S2000x2000, .f32⟩
  | 57 => ⟨S2000x2000, .f32⟩
  | 58 => ⟨S2000x2000, .f32⟩
  | 59 => ⟨S2000, .i32⟩
  | 60 => ⟨S_, .i1⟩
  | 61 => ⟨S2000, .i1⟩
  | 62 => ⟨S_, .i32⟩
  | 63 => ⟨S_, .i32⟩
  | 64 => ⟨S2000x2000, .f32⟩
  | 65 => ⟨S2000, .i32⟩
  | 66 => ⟨S_, .i32⟩
  | 67 => ⟨S_, .i32⟩
  | 68 => ⟨S2000, .i1⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S1x2000, .f32⟩
  | 88 => ⟨S2000, .f32⟩
  | 89 => ⟨S_, .f32⟩
  | 90 => ⟨S2000, .f32⟩
  | 91 => ⟨S2000, .i1⟩
  | 92 => ⟨S_, .i32⟩
  | 93 => ⟨S2000, .i32⟩
  | 94 => ⟨S2000, .i1⟩
  | 95 => ⟨S2000, .i1⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1, .i1⟩
  | 103 => ⟨S_, .i1⟩
  | 104 => ⟨S2000, .i1⟩
  | 105 => ⟨S2000, .i1⟩
  | 106 => ⟨S2000, .i1⟩
  | 107 => ⟨S2000, .i1⟩
  | 108 => ⟨S_, .i32⟩
  | 109 => ⟨S_, .i32⟩
  | 110 => ⟨S_, .f32⟩
  | 111 => ⟨S_, .f32⟩
  | 112 => ⟨S2000, .f32⟩
  | 113 => ⟨S2000, .f32⟩
  | 114 => ⟨S500, .f32⟩
  | 115 => ⟨S500, .i32⟩
  | 116 => ⟨S_, .i32⟩
  | 117 => ⟨S500, .i32⟩
  | 118 => ⟨S500, .i1⟩
  | 119 => ⟨S_, .i32⟩
  | 120 => ⟨S500, .i32⟩
  | 121 => ⟨S500, .i32⟩
  | 122 => ⟨S500, .i32⟩
  | 123 => ⟨S500x1, .i32⟩
  | 124 => ⟨S1, .i32⟩
  | 125 => ⟨S_, .i32⟩
  | 126 => ⟨S500x1, .i32⟩
  | 127 => ⟨S500x1, .i1⟩
  | _ => ⟨S1x2x50000x1, .f32⟩

abbrev hbmTy0_2 (i : Nat) : BufTy := match i % 128 with
  | 0 => ⟨S1x1, .i32⟩
  | 1 => ⟨S500x1, .i32⟩
  | 2 => ⟨S500x1, .i1⟩
  | 3 => ⟨S500x1, .i1⟩
  | 4 => ⟨S_, .i1⟩
  | 5 => ⟨S500, .i1⟩
  | 6 => ⟨S500x7, .f32⟩
  | 7 => ⟨S500x7, .i1⟩
  | 8 => ⟨S_, .f32⟩
  | 9 => ⟨S500x7, .f32⟩
  | 10 => ⟨S500x7, .f32⟩
  | 11 => ⟨S_, .i32⟩
  | 12 => ⟨S500, .i32⟩
  | 13 => ⟨S500, .i1⟩
  | 14 => ⟨S_, .i32⟩
  | 15 => ⟨S500, .i32⟩
  | 16 => ⟨S500, .i32⟩
  | 17 => ⟨S500, .i32⟩
  | 18 => ⟨S500x1, .i32⟩
  | 19 => ⟨S1, .i32⟩
  | 20 => ⟨S_, .i32⟩
  | 21 => ⟨S500x1, .i32⟩
  | 22 => ⟨S500x1, .i1⟩
  | 23 => ⟨S1x1, .i32⟩
  | 24 => ⟨S500x1, .i32⟩
  | 25 => ⟨S500x1, .i1⟩
  | 26 => ⟨S500x1, .i1⟩
  | 27 => ⟨S_, .i1⟩
  | 28 => ⟨S500, .i1⟩
  | 29 => ⟨S500, .f32⟩
  | 30 => ⟨S_, .f32⟩
  | 31 => ⟨S500, .f32⟩
  | 32 => ⟨S500, .f32⟩
  | 33 => ⟨S500x1, .f32⟩
  | 34 => ⟨S500x8, .f32⟩
  | _ => ⟨S1x2x50000x1, .f32⟩

abbrev hbmTy (i : Nat) : BufTy := match i / 128 with
  | 0 => hbmTy0_0 i
  | 1 => hbmTy0_1 i
  | 2 => hbmTy0_2 i
  | _ => ⟨S1x2x50000x1, .f32⟩

abbrev bufTy : (tb : Table) → Fin (tcTables nBuf tb) → BufTy
  | .hbm, ⟨i, _⟩ => hbmTy i
  | _, _ => ⟨S1x2x50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_values : Ref sig .tc := ⟨.hbm, 16, rfl⟩
abbrev main_indices : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v13 : Ref sig .tc := ⟨.hbm, 42, rfl⟩
abbrev main_v14 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_1 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_2 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_3 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_4 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_5 : Ref sig .tc := ⟨.hbm, 157, rfl⟩
abbrev main_call2_v0 : Ref sig .tc := ⟨.hbm, 158, rfl⟩
abbrev main_call2_v1 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_6 : Ref sig .tc := ⟨.hbm, 172, rfl⟩
abbrev main_call3_v0 : Ref sig .tc := ⟨.hbm, 173, rfl⟩
abbrev main_call3_v1 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_7 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_c : Ref sig .tc := ⟨.hbm, 188, rfl⟩
abbrev main_v126 : Ref sig .tc := ⟨.hbm, 189, rfl⟩
abbrev main_c_8 : Ref sig .tc := ⟨.hbm, 190, rfl⟩
abbrev main_c_9 : Ref sig .tc := ⟨.hbm, 191, rfl⟩
abbrev main_v127_0 : Ref sig .tc := ⟨.hbm, 192, rfl⟩
abbrev main_v127_1 : Ref sig .tc := ⟨.hbm, 193, rfl⟩
abbrev main_v127_2 : Ref sig .tc := ⟨.hbm, 194, rfl⟩
abbrev main_v127_3 : Ref sig .tc := ⟨.hbm, 195, rfl⟩
abbrev main_v127_4 : Ref sig .tc := ⟨.hbm, 196, rfl⟩
abbrev main_while0c_c_17 : Ref sig .tc := ⟨.hbm, 197, rfl⟩
abbrev main_while0c_v133 : Ref sig .tc := ⟨.hbm, 198, rfl⟩
abbrev main_while0b_c_17 : Ref sig .tc := ⟨.hbm, 199, rfl⟩
abbrev main_while0b_v133 : Ref sig .tc := ⟨.hbm, 200, rfl⟩
abbrev main_while0b_v134 : Ref sig .tc := ⟨.hbm, 201, rfl⟩
abbrev main_while0b_c_18 : Ref sig .tc := ⟨.hbm, 202, rfl⟩
abbrev main_while0b_v135 : Ref sig .tc := ⟨.hbm, 203, rfl⟩
abbrev main_while0b_c_19 : Ref sig .tc := ⟨.hbm, 204, rfl⟩
abbrev main_while0b_v136 : Ref sig .tc := ⟨.hbm, 205, rfl⟩
abbrev main_while0b_v137 : Ref sig .tc := ⟨.hbm, 206, rfl⟩
abbrev main_while0b_c_20 : Ref sig .tc := ⟨.hbm, 207, rfl⟩
abbrev main_while0b_c_21 : Ref sig .tc := ⟨.hbm, 208, rfl⟩
abbrev main_while0b_v138 : Ref sig .tc := ⟨.hbm, 209, rfl⟩
abbrev main_while0b_c_22 : Ref sig .tc := ⟨.hbm, 210, rfl⟩
abbrev main_while0b_c_23 : Ref sig .tc := ⟨.hbm, 211, rfl⟩
abbrev main_while0b_v139 : Ref sig .tc := ⟨.hbm, 212, rfl⟩
abbrev main_while0b_c_24 : Ref sig .tc := ⟨.hbm, 213, rfl⟩
abbrev main_while0b_v140 : Ref sig .tc := ⟨.hbm, 214, rfl⟩
abbrev main_while0b_v141 : Ref sig .tc := ⟨.hbm, 215, rfl⟩
abbrev main_while0b_v142 : Ref sig .tc := ⟨.hbm, 216, rfl⟩
abbrev main_while0b_cst_25 : Ref sig .tc := ⟨.hbm, 217, rfl⟩
abbrev main_while0b_v143 : Ref sig .tc := ⟨.hbm, 218, rfl⟩
abbrev main_while0b_v144 : Ref sig .tc := ⟨.hbm, 219, rfl⟩
abbrev main_while0b_v145 : Ref sig .tc := ⟨.hbm, 220, rfl⟩
abbrev main_while0b_v146 : Ref sig .tc := ⟨.hbm, 221, rfl⟩
abbrev main_while0b_v147 : Ref sig .tc := ⟨.hbm, 222, rfl⟩
abbrev main_while0b_v148 : Ref sig .tc := ⟨.hbm, 223, rfl⟩
abbrev main_while0b_c_26 : Ref sig .tc := ⟨.hbm, 224, rfl⟩
abbrev main_while0b_v149 : Ref sig .tc := ⟨.hbm, 225, rfl⟩
abbrev main_while0b_v150 : Ref sig .tc := ⟨.hbm, 226, rfl⟩
abbrev main_while0b_c_27 : Ref sig .tc := ⟨.hbm, 227, rfl⟩
abbrev main_while0b_v151 : Ref sig .tc := ⟨.hbm, 228, rfl⟩
abbrev main_while0b_v152 : Ref sig .tc := ⟨.hbm, 229, rfl⟩
abbrev main_while0b_v153 : Ref sig .tc := ⟨.hbm, 230, rfl⟩
abbrev main_while0b_v154 : Ref sig .tc := ⟨.hbm, 231, rfl⟩
abbrev main_while0b_v155 : Ref sig .tc := ⟨.hbm, 232, rfl⟩
abbrev main_while0b_v156 : Ref sig .tc := ⟨.hbm, 233, rfl⟩
abbrev main_while0b_v157 : Ref sig .tc := ⟨.hbm, 234, rfl⟩
abbrev main_while0b_v158 : Ref sig .tc := ⟨.hbm, 235, rfl⟩
abbrev main_while0b_c_28 : Ref sig .tc := ⟨.hbm, 236, rfl⟩
abbrev main_while0b_v159 : Ref sig .tc := ⟨.hbm, 237, rfl⟩
abbrev main_cst_10 : Ref sig .tc := ⟨.hbm, 238, rfl⟩
abbrev main_call4_v0 : Ref sig .tc := ⟨.hbm, 239, rfl⟩
abbrev main_call4_v1 : Ref sig .tc := ⟨.hbm, 240, rfl⟩
abbrev main_v128 : Ref sig .tc := ⟨.hbm, 241, rfl⟩
abbrev main_values_11 : Ref sig .tc := ⟨.hbm, 242, rfl⟩
abbrev main_indices_12 : Ref sig .tc := ⟨.hbm, 243, rfl⟩
abbrev main_call5_c : Ref sig .tc := ⟨.hbm, 244, rfl⟩
abbrev main_call5_v0 : Ref sig .tc := ⟨.hbm, 245, rfl⟩
abbrev main_call5_v1 : Ref sig .tc := ⟨.hbm, 246, rfl⟩
abbrev main_call5_c_0 : Ref sig .tc := ⟨.hbm, 247, rfl⟩
abbrev main_call5_v2 : Ref sig .tc := ⟨.hbm, 248, rfl⟩
abbrev main_call5_v3 : Ref sig .tc := ⟨.hbm, 249, rfl⟩
abbrev main_call5_v4 : Ref sig .tc := ⟨.hbm, 250, rfl⟩
abbrev main_call5_v5 : Ref sig .tc := ⟨.hbm, 251, rfl⟩
abbrev main_call5_c_1 : Ref sig .tc := ⟨.hbm, 252, rfl⟩
abbrev main_call5_c_2 : Ref sig .tc := ⟨.hbm, 253, rfl⟩
abbrev main_call5_v6 : Ref sig .tc := ⟨.hbm, 254, rfl⟩
abbrev main_call5_v7 : Ref sig .tc := ⟨.hbm, 255, rfl⟩
abbrev main_call5_v8 : Ref sig .tc := ⟨.hbm, 256, rfl⟩
abbrev main_call5_v9 : Ref sig .tc := ⟨.hbm, 257, rfl⟩
abbrev main_call5_v10 : Ref sig .tc := ⟨.hbm, 258, rfl⟩
abbrev main_call5_v11 : Ref sig .tc := ⟨.hbm, 259, rfl⟩
abbrev main_call5_c_3 : Ref sig .tc := ⟨.hbm, 260, rfl⟩
abbrev main_call5_v12 : Ref sig .tc := ⟨.hbm, 261, rfl⟩
abbrev main_call5_v13 : Ref sig .tc := ⟨.hbm, 262, rfl⟩
abbrev main_call5_v14 : Ref sig .tc := ⟨.hbm, 263, rfl⟩
abbrev main_call5_cst : Ref sig .tc := ⟨.hbm, 264, rfl⟩
abbrev main_call5_v15 : Ref sig .tc := ⟨.hbm, 265, rfl⟩
abbrev main_v129 : Ref sig .tc := ⟨.hbm, 266, rfl⟩
abbrev main_call6_c : Ref sig .tc := ⟨.hbm, 267, rfl⟩
abbrev main_call6_v0 : Ref sig .tc := ⟨.hbm, 268, rfl⟩
abbrev main_call6_v1 : Ref sig .tc := ⟨.hbm, 269, rfl⟩
abbrev main_call6_c_0 : Ref sig .tc := ⟨.hbm, 270, rfl⟩
abbrev main_call6_v2 : Ref sig .tc := ⟨.hbm, 271, rfl⟩
abbrev main_call6_v3 : Ref sig .tc := ⟨.hbm, 272, rfl⟩
abbrev main_call6_v4 : Ref sig .tc := ⟨.hbm, 273, rfl⟩
abbrev main_call6_v5 : Ref sig .tc := ⟨.hbm, 274, rfl⟩
abbrev main_call6_c_1 : Ref sig .tc := ⟨.hbm, 275, rfl⟩
abbrev main_call6_c_2 : Ref sig .tc := ⟨.hbm, 276, rfl⟩
abbrev main_call6_v6 : Ref sig .tc := ⟨.hbm, 277, rfl⟩
abbrev main_call6_v7 : Ref sig .tc := ⟨.hbm, 278, rfl⟩
abbrev main_call6_v8 : Ref sig .tc := ⟨.hbm, 279, rfl⟩
abbrev main_call6_v9 : Ref sig .tc := ⟨.hbm, 280, rfl⟩
abbrev main_call6_v10 : Ref sig .tc := ⟨.hbm, 281, rfl⟩
abbrev main_call6_v11 : Ref sig .tc := ⟨.hbm, 282, rfl⟩
abbrev main_call6_c_3 : Ref sig .tc := ⟨.hbm, 283, rfl⟩
abbrev main_call6_v12 : Ref sig .tc := ⟨.hbm, 284, rfl⟩
abbrev main_call6_v13 : Ref sig .tc := ⟨.hbm, 285, rfl⟩
abbrev main_call6_cst : Ref sig .tc := ⟨.hbm, 286, rfl⟩
abbrev main_call6_v14 : Ref sig .tc := ⟨.hbm, 287, rfl⟩
abbrev main_v130 : Ref sig .tc := ⟨.hbm, 288, rfl⟩
abbrev main_v131 : Ref sig .tc := ⟨.hbm, 289, rfl⟩
abbrev main_v132 : Ref sig .tc := ⟨.hbm, 290, rfl⟩

abbrev nD : Nat := 1
abbrev τ : Topo := Topo.v7x

variable {F : FTy → Type} [FloatOps F]

abbrev main_while0_count : Scf.Loop 32 := ⟨0#32, 2000#32, 1#32⟩
-- ==== Proof.Shared.lean ====
/-
  The host operations both programs share, as functions of what they read: the sigmoid scores and their 2000 best, the
  regression deltas laid out one row per anchor, the selection of rows by index, and, at the end, the 500 best kept boxes
  with their scores. Each is written out once here; each program's stretch of host operations is read as one of them.
-/
module

public import proofs.«01_k».proof.Proof.Gen.KernelIdeal
public import Idealize.ShloMosaic.Lib.Pointwise

@[expose] public section

set_option maxRecDepth 16384

noncomputable section

namespace Cert.Proof.Shared

open Cert.KernelIdeal Cert.KernelIdeal.Gen
open Idealize.ShloMosaic Idealize.ShloMosaic.TcCoe

/-- The objectness scores: the sigmoid of each anchor's logit, anchors in the order of the grid. -/
def scores (x : FVec Ideal S1x2x50000x1 .f32) : FVec Ideal S1x100000 .f32 :=
  Host.divf (broadcastInDim S1x100000 ![] bcast_S_S1x100000 (constant S_ .f32 0x3F800000#32))
    (addf (broadcastInDim S1x100000 ![] bcast_S_S1x100000 (constant S_ .f32 0x3F800000#32))
      (Host.exp (Host.negf (shapeCast S1x100000
        (transpose S1x50000x1x2 [0, 2, 3, 1] x transposes_S1x2x50000x1_S1x50000x1x2_0_2_3_1) shapeCasts_S1x50000x1x2_S1x100000))))

/-- The 2000 best scores, best first. -/
def best (x : FVec Ideal S1x2x50000x1 .f32) : FVec Ideal S2000 .f32 :=
  shapeCast S2000 (Host.topK S1x2000 1 (FloatOps.cmpfTotal .gt) (scores x) sliceFits_S1x100000_S1x2000).1 shapeCasts_S1x2000_S2000

/-- Which anchors they belong to. -/
def bestIdx (x : FVec Ideal S1x2x50000x1 .f32) : IVec S2000 32 :=
  shapeCast S2000 (Host.topK S1x2000 1 (FloatOps.cmpfTotal .gt) (scores x) sliceFits_S1x100000_S1x2000).2 shapeCasts_S1x2000_S2000

/-- The regression deltas, one row of seven per anchor, anchors in the order of the grid. -/
def deltaRows (y : FVec Ideal S1x14x50000x1 .f32) : FVec Ideal S100000x7 .f32 :=
  shapeCast S100000x7 (shapeCast S1x100000x7
    (transpose S1x50000x1x2x7 [0, 3, 4, 1, 2] (shapeCast S1x2x7x50000x1 y shapeCasts_S1x14x50000x1_S1x2x7x50000x1)
      transposes_S1x2x7x50000x1_S1x50000x1x2x7_0_3_4_1_2) shapeCasts_S1x50000x1x2x7_S1x100000x7) shapeCasts_S1x100000x7_S100000x7

/-- An index into the 100000 anchors, a negative one counted from the end, as a column. -/
def wrapTop (i : IVec S2000 32) : IVec S2000x1 32 :=
  broadcastInDim S2000x1 ![0] bcast_S2000_S2000x1_0
    (select (cmpi .slt i (broadcastInDim S2000 ![] bcast_S_S2000 (constantI S_ 32 0#32)))
      (addi i (broadcastInDim S2000 ![] bcast_S_S2000 (constantI S_ 32 100000#32))) i)

/-- The rows of a table of 100000 at these indices; a row whose index is out of range is not a number throughout. -/
def takeTop (x : FVec Ideal S100000x7 .f32) (i : IVec S2000 32) : FVec Ideal S2000x7 .f32 :=
  select
    (broadcastInDim S2000x7 ![0] bcast_S2000_S2000x7_0
      (Host.reduce IntOp.andi
        (andi (cmpi .sge (wrapTop i) (broadcastInDim S2000x1 ![] bcast_S_S2000x1 (constantI S_ 32 0#32)))
          (cmpi .sle (wrapTop i)
            (broadcastInDim S2000x1 ![0, 1] bcast_S1x1_S2000x1_0_1 (broadcastInDim S1x1 ![1] bcast_S1_S1x1_1 (constantI S1 32 99999#32)))))
        (constantI S_ 1 1#1) reducesTo_S2000x1_S2000_d1 h_S_))
    (Host.gather gather_S100000x7_S2000x1_S2000x7_1_0_n_n_0_1_17 x (wrapTop i))
    (broadcastInDim S2000x7 ![] bcast_S_S2000x7 (constant S_ .f32 0x7FC00000#32))

/-- An index into the 2000 candidates, a negative one counted from the end, as a column. -/
def wrapKept (i : IVec S500 32) : IVec S500x1 32 :=
  broadcastInDim S500x1 ![0] bcast_S500_S500x1_0
    (select (cmpi .slt i (broadcastInDim S500 ![] bcast_S_S500 (constantI S_ 32 0#32)))
      (addi i (broadcastInDim S500 ![] bcast_S_S500 (constantI S_ 32 2000#32))) i)

/-- Whether such an index is in range. -/
def insideKept (i : IVec S500 32) : IVec S500 1 :=
  Host.reduce IntOp.andi
    (andi (cmpi .sge (wrapKept i) (broadcastInDim S500x1 ![] bcast_S_S500x1 (constantI S_ 32 0#32)))
      (cmpi .sle (wrapKept i)
        (broadcastInDim S500x1 ![0, 1] bcast_S1x1_S500x1_0_1 (broadcastInDim S1x1 ![1] bcast_S1_S1x1_1 (constantI S1 32 1999#32)))))
    (constantI S_ 1 1#1) reducesTo_S500x1_S500_d1 h_S_

/-- The candidates' boxes at these indices. -/
def takeBox (x : FVec Ideal S2000x7 .f32) (i : IVec S500 32) : FVec Ideal S500x7 .f32 :=
  select (broadcastInDim S500x7 ![0] bcast_S500_S500x7_0 (insideKept i))
    (Host.gather gather_S2000x7_S500x1_S500x7_1_0_n_n_0_1_17 x (wrapKept i))
    (broadcastInDim S500x7 ![] bcast_S_S500x7 (constant S_ .f32 0x7FC00000#32))

/-- The candidates' scores at these indices. -/
def takeScore (x : FVec Ideal S2000 .f32) (i : IVec S500 32) : FVec Ideal S500 .f32 :=
  select (insideKept i) (Host.gather gather_S2000_S500x1_S500_n_0_n_n_0_1_1 x (wrapKept i))
    (broadcastInDim S500 ![] bcast_S_S500 (constant S_ .f32 0x7FC00000#32))

/-- The scores with every struck-out candidate's replaced by a value below them all. -/
def masked (keep : IVec S2000 1) (s : FVec Ideal S2000 .f32) : FVec Ideal S2000 .f32 :=
  select keep s (broadcastInDim S2000 ![] bcast_S_S2000 (constant S_ .f32 0xCE6E6B28#32))

/-- The indices of the 500 best of 2000 scores, best first. -/
def pick (s : FVec Ideal S2000 .f32) : IVec S500 32 :=
  (Host.topK S500 0 (FloatOps.cmpfTotal .gt) s sliceFits_S2000_S500).2

/-- The indices of the 500 best kept candidates. -/
def keptIdx (keep : IVec S2000 1) (s : FVec Ideal S2000 .f32) : IVec S500 32 := pick (masked keep s)

/-- Boxes and scores side by side. -/
def joined (b : FVec Ideal S500x7 .f32) (s : FVec Ideal S500 .f32) : FVec Ideal S500x8 .f32 :=
  concatenate S500x8 1 [⟨S500x7, b⟩, ⟨S500x1, broadcastInDim S500x1 ![0] bcast_S500_S500x1_0 s⟩] concatenates_S500x7_S500x1_S500x8_d1

/-- THE RESULT, of which candidates were kept, their scores and their boxes: the 500 best kept ones, each box with its
    score. -/
def finish (keep : IVec S2000 1) (s : FVec Ideal S2000 .f32) (b : FVec Ideal S2000x7 .f32) : FVec Ideal S500x8 .f32 :=
  joined (takeBox b (keptIdx keep s)) (takeScore s (keptIdx keep s))

end Cert.Proof.Shared

end
-- ==== Proof.KernelIdealHost.lean ====
/-
  The kernel's host operations, read stretch by stretch: before the pipeline region the 2000 best anchors are selected
  and their anchor and delta rows gathered and transposed; after it the kept boxes are selected. Each stretch is stated
  as a function of what it reads.
-/
module

public import proofs.«01_k».proof.Proof.Gen.KernelIdeal.Launch
public import proofs.«01_k».proof.Proof.Shared

@[expose] public section

set_option maxRecDepth 16384

noncomputable section

namespace Cert.Proof.KI

open Cert.KernelIdeal Cert.KernelIdeal.Gen Cert.Proof.Shared
open Idealize.ShloMosaic Idealize.ShloMosaic.TcCoe Idealize.ShloMosaic.StableHlo

variable (V : Valuation τ sig (Elt Ideal))

/-! ## Before the region -/

/-- The first stretch leaves the delta rows, -/
theorem h0_deltas : after hostOps0 V (main_v11 : DevRef τ sig) = deltaRows (V (main_arg1 : DevRef τ sig)) := by
  after_results
  rfl

/-- the indices of the best anchors, -/
theorem h0_idx : after hostOps0 V (main_v12 : DevRef τ sig) = bestIdx (V (main_arg0 : DevRef τ sig)) := by
  after_results
  rfl

/-- the same as the selection returned them, -/
theorem h0_indices : shapeCast S2000 (after hostOps0 V (main_indices : DevRef τ sig)) shapeCasts_S1x2000_S2000 = bestIdx (V (main_arg0 : DevRef τ sig)) := by
  after_results
  rfl

/-- and their scores. -/
theorem h0_values : shapeCast S2000 (after hostOps0 V (main_values : DevRef τ sig)) shapeCasts_S1x2000_S2000 = best (V (main_arg0 : DevRef τ sig)) := by
  after_results
  rfl

/-- The second gathers the delta rows. -/
theorem h1_deltas : after hostOps0_1 V (main_v13 : DevRef τ sig) = takeTop (V (main_v11 : DevRef τ sig)) (V (main_v12 : DevRef τ sig)) := by
  after_results
  rfl

/-- The third transposes them -/
theorem h2_deltas : after hostOps0_2 V (main_v14 : DevRef τ sig) = transpose S7x2000 [1, 0] (V (main_v13 : DevRef τ sig)) transposes_S2000x7_S7x2000_1_0 := by
  after_results

/-- and lays the indices out in a line. -/
theorem h2_idx : after hostOps0_2 V (main_v15 : DevRef τ sig) = shapeCast S2000 (V (main_indices : DevRef τ sig)) shapeCasts_S1x2000_S2000 := by
  after_results
  rfl

/-- The fourth gathers the anchor rows. -/
theorem h3_anchors : after hostOps0_3 V (main_v16 : DevRef τ sig) = takeTop (V (main_arg2 : DevRef τ sig)) (V (main_v15 : DevRef τ sig)) := by
  after_results
  rfl

/-- The fifth transposes them. -/
theorem h4_anchors : after hostOps0_4 V (main_v17 : DevRef τ sig) = transpose S7x2000 [1, 0] (V (main_v16 : DevRef τ sig)) transposes_S2000x7_S7x2000_1_0 := by
  after_results

/-! ## After the region -/

/-- Which candidates are kept: those whose mask entry is above a half. -/
def keepBits (k : FVec Ideal S1x2000 .f32) : IVec S2000 1 :=
  cmpf .ogt (shapeCast S2000 k shapeCasts_S1x2000_S2000) (broadcastInDim S2000 ![] bcast_S_S2000 (constant S_ .f32 0x3F000000#32))

theorem t0_keep : after hostOps1 V (main_v22 : DevRef τ sig) = keepBits (V (main_v18_1 : DevRef τ sig)) := by
  after_results
  rfl
theorem t0_scores : after hostOps1 V (main_v19 : DevRef τ sig) = shapeCast S2000 (V (main_values : DevRef τ sig)) shapeCasts_S1x2000_S2000 := by
  after_results
  rfl
theorem t0_low : after hostOps1 V (main_cst_2 : DevRef τ sig) = (constant S_ .f32 0xCE6E6B28#32 : FVec Ideal S_ .f32) := by
  after_results

/-- The second stretch masks the scores. -/
theorem t1_masked (h : V (main_cst_2 : DevRef τ sig) = (constant S_ .f32 0xCE6E6B28#32 : FVec Ideal S_ .f32)) :
    after hostOps1_1 V (main_v23 : DevRef τ sig) = masked (V (main_v22 : DevRef τ sig)) (V (main_v19 : DevRef τ sig)) := by
  after_results
  rw [h]
  rfl

/-- The third selects the 500 best and transposes the boxes back. -/
theorem t2_idx : after hostOps1_2 V (main_indices_4 : DevRef τ sig) = pick (V (main_v23 : DevRef τ sig)) := by
  after_results
  rfl
theorem t2_boxes : after hostOps1_2 V (main_v24 : DevRef τ sig)
    = transpose S2000x7 [1, 0] (V (main_v18_0 : DevRef τ sig)) transposes_S7x2000_S2000x7_1_0 := by
  after_results

/-- The fourth and the fifth gather their boxes and their scores. -/
theorem t3_boxes : after hostOps1_3 V (main_v25 : DevRef τ sig) = takeBox (V (main_v24 : DevRef τ sig)) (V (main_indices_4 : DevRef τ sig)) := by
  after_results
  rfl
theorem t4_scores : after hostOps1_4 V (main_v26 : DevRef τ sig) = takeScore (V (main_v19 : DevRef τ sig)) (V (main_indices_4 : DevRef τ sig)) := by
  after_results
  rfl

/-- The last puts them side by side. -/
theorem t5_joined : after hostOps1_5 V (main_v28 : DevRef τ sig) = joined (V (main_v25 : DevRef τ sig)) (V (main_v26 : DevRef τ sig)) := by
  after_results
  rfl

/-! ## What a stretch leaves alone -/

theorem h0_keep_arg2 : after hostOps0 V (main_arg2 : DevRef τ sig) = V (main_arg2 : DevRef τ sig) := by after_results
theorem h1_keep_arg2 : after hostOps0_1 V (main_arg2 : DevRef τ sig) = V (main_arg2 : DevRef τ sig) := by after_results
theorem h1_keep_indices : after hostOps0_1 V (main_indices : DevRef τ sig) = V (main_indices : DevRef τ sig) := by after_results
theorem h1_keep_values : after hostOps0_1 V (main_values : DevRef τ sig) = V (main_values : DevRef τ sig) := by after_results
theorem h2_keep_arg2 : after hostOps0_2 V (main_arg2 : DevRef τ sig) = V (main_arg2 : DevRef τ sig) := by after_results
theorem h2_keep_values : after hostOps0_2 V (main_values : DevRef τ sig) = V (main_values : DevRef τ sig) := by after_results
theorem h3_keep_v14 : after hostOps0_3 V (main_v14 : DevRef τ sig) = V (main_v14 : DevRef τ sig) := by after_results
theorem h3_keep_values : after hostOps0_3 V (main_values : DevRef τ sig) = V (main_values : DevRef τ sig) := by after_results
theorem h4_keep_v14 : after hostOps0_4 V (main_v14 : DevRef τ sig) = V (main_v14 : DevRef τ sig) := by after_results
theorem h4_keep_values : after hostOps0_4 V (main_values : DevRef τ sig) = V (main_values : DevRef τ sig) := by after_results
theorem t0_keep_v18_0 : after hostOps1 V (main_v18_0 : DevRef τ sig) = V (main_v18_0 : DevRef τ sig) := by after_results
theorem t1_keep_v18_0 : after hostOps1_1 V (main_v18_0 : DevRef τ sig) = V (main_v18_0 : DevRef τ sig) := by after_results
theorem t1_keep_v19 : after hostOps1_1 V (main_v19 : DevRef τ sig) = V (main_v19 : DevRef τ sig) := by after_results
theorem t2_keep_v19 : after hostOps1_2 V (main_v19 : DevRef τ sig) = V (main_v19 : DevRef τ sig) := by after_results
theorem t3_keep_v19 : after hostOps1_3 V (main_v19 : DevRef τ sig) = V (main_v19 : DevRef τ sig) := by after_results
theorem t3_keep_indices_4 : after hostOps1_3 V (main_indices_4 : DevRef τ sig) = V (main_indices_4 : DevRef τ sig) := by after_results
theorem t4_keep_v25 : after hostOps1_4 V (main_v25 : DevRef τ sig) = V (main_v25 : DevRef τ sig) := by after_results

/-! ## The stretches together -/

/-- Before the region: the deltas' array, -/
theorem pre_deltas : after (List.flatten [hostOps0, hostOps0_1, hostOps0_2, hostOps0_3, hostOps0_4]) V (main_v14 : DevRef τ sig)
    = transpose S7x2000 [1, 0] (takeTop (deltaRows (V (main_arg1 : DevRef τ sig))) (bestIdx (V (main_arg0 : DevRef τ sig)))) transposes_S2000x7_S7x2000_1_0 := by
  simp only [List.flatten_cons, List.flatten_nil, List.append_nil, after_append]
  rw [h4_keep_v14, h3_keep_v14, h2_deltas, h1_deltas, h0_deltas, h0_idx]

/-- the anchors', -/
theorem pre_anchors : after (List.flatten [hostOps0, hostOps0_1, hostOps0_2, hostOps0_3, hostOps0_4]) V (main_v17 : DevRef τ sig)
    = transpose S7x2000 [1, 0] (takeTop (V (main_arg2 : DevRef τ sig)) (bestIdx (V (main_arg0 : DevRef τ sig)))) transposes_S2000x7_S7x2000_1_0 := by
  simp only [List.flatten_cons, List.flatten_nil, List.append_nil, after_append]
  rw [h4_anchors, h3_anchors, h2_idx, h2_keep_arg2, h1_keep_arg2, h0_keep_arg2, h1_keep_indices, h0_indices]

/-- and the scores. -/
theorem pre_values : shapeCast S2000 (after (List.flatten [hostOps0, hostOps0_1, hostOps0_2, hostOps0_3, hostOps0_4]) V (main_values : DevRef τ sig)) shapeCasts_S1x2000_S2000
    = best (V (main_arg0 : DevRef τ sig)) := by
  simp only [List.flatten_cons, List.flatten_nil, List.append_nil, after_append]
  rw [h4_keep_values, h3_keep_values, h2_keep_values, h1_keep_values, h0_values]

/-- After the region: the result, from the mask, the scores and the boxes. -/
theorem post_result : after (List.flatten [hostOps1, hostOps1_1, hostOps1_2, hostOps1_3, hostOps1_4, hostOps1_5]) V (main_v28 : DevRef τ sig)
    = finish (keepBits (V (main_v18_1 : DevRef τ sig))) (shapeCast S2000 (V (main_values : DevRef τ sig)) shapeCasts_S1x2000_S2000)
        (transpose S2000x7 [1, 0] (V (main_v18_0 : DevRef τ sig)) transposes_S7x2000_S2000x7_1_0) := by
  simp only [List.flatten_cons, List.flatten_nil, List.append_nil, after_append]
  rw [t5_joined, t4_scores, t4_keep_v25, t3_boxes, t3_keep_v19, t3_keep_indices_4, t2_idx, t2_boxes, t2_keep_v19,
    t1_masked _ (t0_low V), t1_keep_v18_0, t1_keep_v19, t0_keep, t0_scores, t0_keep_v18_0]
  rfl

end Cert.Proof.KI

end
-- ==== Proof.Spec.lean ====
/-
  The plain mathematics both programs compute, over the extended reals: decoding a box from an anchor and its regression
  deltas (`decode`), the bird's-eye intersection over union of two boxes (`iou`), and greedy suppression (`keepB`): in
  order of score, a box still kept strikes out every later box that overlaps it by more than the threshold.
-/
module

public import Idealize.ShloMosaic.Lib.Pointwise
public import Idealize.ShloMosaic.Lib.WordArith

@[expose] public section

noncomputable section

namespace Cert.Proof.Spec

open Idealize.ShloMosaic

/-- One half. -/
abbrev half : EReal := Ideal.ofBits .f32 0x3F000000#32
/-- The suppression threshold, 0.7 rounded to the format. -/
abbrev thr : EReal := Ideal.ofBits .f32 0x3F333333#32
/-- The small constant added to a union, 1e-9 rounded to the format. -/
abbrev eps : EReal := Ideal.ofBits .f32 0x3089705F#32

/-- A decoded box (x, y, z, w, l, h, r) from its anchor and its deltas. -/
def decode (a d : Fin 7 → EReal) : Fin 7 → EReal :=
  ![d 0 * Ideal.sqrt (a 3 * a 3 + a 4 * a 4) + a 0, d 1 * Ideal.sqrt (a 3 * a 3 + a 4 * a 4) + a 1, d 2 * a 5 + a 2,
    Ideal.exp (d 3) * a 3, Ideal.exp (d 4) * a 4, Ideal.exp (d 5) * a 5, d 6 + a 6]

/-- The lower end of the interval with this centre and extent. -/
def lo (x e : EReal) : EReal := x - e * half
/-- The upper end of the interval with this centre and extent. -/
def hi (x e : EReal) : EReal := x + e * half
/-- How far two intervals overlap: zero if they do not. -/
def overlap (l₁ h₁ l₂ h₂ : EReal) : EReal := max 0 (min h₁ h₂ - max l₁ l₂)

/-- The area two boxes share, seen from above. -/
def inter (b b' : Fin 7 → EReal) : EReal :=
  overlap (lo (b 0) (b 3)) (hi (b 0) (b 3)) (lo (b' 0) (b' 3)) (hi (b' 0) (b' 3))
    * overlap (lo (b 1) (b 4)) (hi (b 1) (b 4)) (lo (b' 1) (b' 4)) (hi (b' 1) (b' 4))

/-- Intersection over union of two boxes, seen from above. -/
def iou (b b' : Fin 7 → EReal) : EReal :=
  Ideal.div (inter b b') (b 3 * b 4 + b' 3 * b' 4 - inter b b' + eps)

/-- Whether box `j` is still kept after the first `k` boxes have had their turn. -/
def keepB (B : Fin 2000 → Fin 7 → EReal) : ℕ → Fin 2000 → Bool
  | 0, _ => true
  | k + 1, j =>
    if h : k < 2000 then
      keepB B k j && !(decide (thr < iou (B ⟨k, h⟩) (B j)) && decide (k < j.val) && keepB B k ⟨k, h⟩)
    else keepB B k j

/-- One turn, at a box's number: box `j` stays kept unless box `k` is kept, comes earlier and overlaps it too much. -/
theorem keepB_succ (B : Fin 2000 → Fin 7 → EReal) (k j : Fin 2000) :
    keepB B (k.val + 1) j
      = (keepB B k.val j && !(decide (thr < iou (B k) (B j)) && decide (k.val < j.val) && keepB B k.val k)) := by
  rw [keepB, dif_pos k.isLt]

/-- The trip counter's word at trip `k`, counting from zero by ones. -/
theorem iv_eq (k : ℕ) : Scf.iv 0#32 1#32 k = BitVec.ofNat 32 k := by simp [Scf.iv]

/-- The words of two box numbers are equal exactly when the numbers are. -/
theorem cmpi_eq_lane (x k : Fin 2000) :
    IntOp.cmpi .eq (BitVec.ofNat 32 x.val) (BitVec.ofNat 32 k.val) = BitVec.ofBool (decide (x = k)) := by
  have hx := x.isLt
  have hk := k.isLt
  have h : (BitVec.ofNat 32 x.val = BitVec.ofNat 32 k.val) ↔ x = k := by
    constructor
    · intro h
      have := congrArg BitVec.toNat h
      simp only [BitVec.toNat_ofNat] at this
      exact Fin.ext (by omega)
    · rintro rfl; rfl
  show BitVec.ofBool (BitVec.ofNat 32 x.val == BitVec.ofNat 32 k.val) = _
  congr 1
  rw [Bool.eq_iff_iff]
  simp only [beq_iff_eq, decide_eq_true_eq]
  exact h

/-- The signed comparison of two box numbers' words is the comparison of the numbers. -/
theorem cmpi_sgt_lane (j k : Fin 2000) :
    IntOp.cmpi .sgt (BitVec.ofNat 32 j.val) (BitVec.ofNat 32 k.val) = BitVec.ofBool (decide (k.val < j.val)) := by
  have hj := j.isLt
  have hk := k.isLt
  have h : ∀ n : ℕ, n < 2000 → (BitVec.ofNat 32 n).toInt = n := fun n hn => by
    exact WordArith.toInt_ofNat_small n (by omega)
  show BitVec.ofBool ((BitVec.ofNat 32 k.val).slt (BitVec.ofNat 32 j.val)) = _
  congr 1
  rw [BitVec.slt, h _ hj, h _ hk]
  simp

/-- A sum over the lanes of a value masked to one lane is the value there. -/
theorem sum_select_lane (f : Fin 2000 → EReal) (k : Fin 2000) :
    (∑ x : Fin 2000, Scalar.select (IntOp.cmpi .eq (BitVec.ofNat 32 x.val) (BitVec.ofNat 32 k.val)) (f x) 0) = f k := by
  rw [Finset.sum_eq_single k]
  · rw [cmpi_eq_lane]; simp [Scalar.select]
  · intro x _ hne
    rw [cmpi_eq_lane]; simp [Scalar.select, hne]
  · simp

/-- The half's pattern is the real number one half. -/
theorem half_eq : half = (((1 : ℝ) / 2 : ℝ) : EReal) := by
  simp [half, Ideal.ofBits, Ideal.ieee, -EReal.coe_mul]; norm_num

/-- A kept box's flag, one, is above one half. -/
theorem half_lt_one : half < 1 := by
  rw [half_eq]; exact_mod_cast (by norm_num : (1 : ℝ) / 2 < 1)

/-- A struck box's flag, zero, is not above one half. -/
theorem not_half_lt_zero : ¬ half < 0 := by
  rw [half_eq]; exact not_lt.mpr (by exact_mod_cast (by norm_num : (0 : ℝ) ≤ 1 / 2))

/-- The conjunction of two flags' bits is the bit of their conjunction. -/
theorem andi_ofBool (p q : Bool) : IntOp.andi (BitVec.ofBool p) (BitVec.ofBool q) = BitVec.ofBool (p && q) := by
  cases p <;> cases q <;> rfl

/-- A selection by a flag's bit is the `if` on the flag. -/
theorem select_ofBool {α : Type} (p : Bool) (x y : α) : Scalar.select (BitVec.ofBool p) x y = if p then x else y := by
  cases p <;> rfl

/-- What holds at first and is carried on by every step holds of a fold over the steps in order. -/
theorem foldl_finRange_inv {σ : Type} : ∀ {n : ℕ} (g : Fin n → σ → σ) (P : ℕ → σ → Prop) (init : σ) (_ : P 0 init)
    (_ : ∀ (k : Fin n) (s : σ), P k.val s → P (k.val + 1) (g k s)), P n ((List.finRange n).foldl (fun acc k => g k acc) init)
  | 0, _, _, _, h0, _ => h0
  | n + 1, g, P, init, h0, hs => by
    rw [List.finRange_succ_last, List.foldl_append, List.foldl_map]
    exact hs (Fin.last n) _ (foldl_finRange_inv (fun k => g k.castSucc) P init h0 fun k s h => hs k.castSucc s h)

end Cert.Proof.Spec

end
-- ==== Proof.Result.lean ====
/-
  The result both programs leave, as one function of the three arguments: the 2000 best anchors' boxes, decoded; which of
  them the suppression keeps; and of those the 500 best, each box beside its score.
-/
module

public import proofs.«01_k».proof.Proof.Shared
public import proofs.«01_k».proof.Proof.Spec

@[expose] public section

noncomputable section

namespace Cert.Proof.Shared

open Cert.KernelIdeal Cert.KernelIdeal.Gen Cert.Proof.Spec
open Idealize.ShloMosaic Idealize.ShloMosaic.TcCoe

/-- The candidates' boxes, from the anchor rows and the delta rows of the candidates. -/
def boxesOf (A D : FVec Ideal S2000x7 .f32) (j : Fin 2000) : Fin 7 → EReal :=
  decode (fun r => A (ix2 j r)) (fun r => D (ix2 j r))

/-- Them as a table. -/
def tableOf (B : Fin 2000 → Fin 7 → EReal) : FVec Ideal S2000x7 .f32 := fun i => B (i 0) (i 1)

/-- Which of them are kept once every candidate has had its turn, as bits. -/
def bitsOf (B : Fin 2000 → Fin 7 → EReal) (k : ℕ) : IVec S2000 1 := fun i => BitVec.ofBool (keepB B k (i 0))

/-- The result for these boxes and scores. -/
def resultOf (B : Fin 2000 → Fin 7 → EReal) (s : FVec Ideal S2000 .f32) : FVec Ideal S500x8 .f32 :=
  finish (bitsOf B 2000) s (tableOf B)

/-- THE RESULT, of the logits `x`, the deltas `y` and the anchors `z`. -/
def result (x : FVec Ideal S1x2x50000x1 .f32) (y : FVec Ideal S1x14x50000x1 .f32) (z : FVec Ideal S100000x7 .f32) : FVec Ideal S500x8 .f32 :=
  resultOf (boxesOf (takeTop z (bestIdx x)) (takeTop (deltaRows y) (bestIdx x))) (best x)

end Cert.Proof.Shared

end
-- ==== Proof.KernelIdealRun.lean ====
/-
  `KernelIdeal`'s run. One grid point: the body decodes the 2000 boxes of its block, stores the seven decoded rows, and
  runs the 2000 suppression trips on a value it carries from trip to trip, touching no memory; it stores the last.
  `decoded`, `kept` say what the two result blocks hold, of the two blocks the body reads; `kernel_run` is the body's
  triple; `run_main` the run of @main around it; `frame` the claim that the arguments end unchanged and every counter
  at zero.
-/
module

public import proofs.«01_k».proof.Proof.Gen.KernelIdeal.Skeleton
public import proofs.«01_k».proof.Proof.Gen.KernelIdeal.Frame
public import Idealize.ShloMosaic.Lib.Claim

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The whole rectangle of a block of seven rows. -/
abbrev rect7 : Rect S7x2000 := Rect.unit (s := S7x2000) ![0, 0] S7x2000.size inb_S7x2000_S7x2000_0_0
/-- The whole rectangle of a block of one row. -/
abbrev rect1 : Rect S1x2000 := Rect.unit (s := S1x2000) ![0, 0] S1x2000.size inb_S1x2000_S1x2000_0_0

/-- The lane numbers 0, 1, …, 1999. -/
def lanes : IVec S1x2000 32 := iota .tc S1x2000 32 [1] iota_S1x2000_d1_w32

/-- One suppression trip on the carried row, from the anchors' block `a` and the deltas' block `d`. -/
def trip (a d : Vec F S7x2000 .f32) (k : Fin k0_t1_loop.trips) (keep : FVec F S1x2000 .f32) : FVec F S1x2000 .f32 :=
  k0_pay4 keep
    (k0_pay5 (k0_pay17 a d) (k0_pay18 a d) (k0_pay19 a d) (k0_pay20 a d) (k0_pay1 (k0_pay14 a d) (k0_pay15 a d)) lanes
      (k0_pay2 (k0_pay14 a d) (k0_pay15 a d) (k0_pay17 a d) (k0_pay18 a d) (k0_pay19 a d) (k0_pay20 a d)) 0#32 1#32 k keep)
    k0_pay6

/-- The row carried out of the last trip: all ones at first. -/
def lastKeep (a d : Vec F S7x2000 .f32) : FVec F S1x2000 .f32 :=
  Scf.fold (n := k0_t1_loop.trips) (trip a d) k0_pay3

/-- What the block of decoded rows holds after the body. -/
def decoded (a d : Vec F S7x2000 .f32) : Vec F S7x2000 .f32 :=
  View.canon [⟨rect7, k0_pay16 (View.ld a rect7) (View.ld d rect7)⟩]

/-- What the block of the keep row holds after the body. -/
def kept (a d : Vec F S7x2000 .f32) : Vec F S1x2000 .f32 :=
  View.canon [⟨rect1, lastKeep (View.ld a rect7) (View.ld d rect7)⟩]

/-- The one store of seven rows covers its block. -/
theorem cover7 (p : Vec F S7x2000 .f32) (y : S7x2000.Idx) :
    ∃ pc ∈ ([⟨rect7, p⟩] : List (View.Piece (Elt F) S7x2000 .f32)), y ∈ pc.1.set :=
  View.cover_of_tiled [⟨rect7, p⟩] S7x2000.size (by rfl) y

/-- The one store of one row covers its block. -/
theorem cover1 (p : Vec F S1x2000 .f32) (y : S1x2000.Idx) :
    ∃ pc ∈ ([⟨rect1, p⟩] : List (View.Piece (Elt F) S1x2000 .f32)), y ∈ pc.1.set :=
  View.cover_of_tiled [⟨rect1, p⟩] S1x2000.size (by rfl) y

/-- A trip's region touches no memory: it returns the next carried row. -/
theorem region_ret (arg0 : Memref sig .tc .vmem S1x2000 .f32) (harg0 : arg0.IsWhole) (arg1 : Memref sig .tc .vmem S7x2000 .f32) (harg1 : arg1.IsWhole)
    (arg2 : Memref sig .tc .vmem S7x2000 .f32) (harg2 : arg2.IsWhole) (arg3 : Memref sig .tc .vmem S7x2000 .f32) (harg3 : arg3.IsWhole)
    (arg4 : Memref sig .tc .vmem S1x2000 .f32) (harg4 : arg4.IsWhole) (w l x1 x2 y1 y2 : FVec F S1x2000 .f32) (n : IVec S1x2000 32) :
    k0_t1_body (F := F) arg0 harg0 arg1 harg1 arg2 harg2 arg3 harg3 arg4 harg4 w l x1 x2 y1 y2 n
      = fun k keep => .ret (k0_pay4 keep (k0_pay5 x1 x2 y1 y2 (k0_pay1 w l) n (k0_pay2 w l x1 x2 y1 y2) 0#32 1#32 k keep) k0_pay6) := by
  funext k keep
  unfold k0_t1_body
  rw [k0_part1_eq_skeleton]
  rfl

set_option maxHeartbeats 4000000 in
/-- The body on whole staging buffers, the inputs' at `s`, `d`, `a` and the outputs' at anything, leaves the inputs as they
    were, the first output at `decoded a d` and the second at `kept a d`. -/
theorem kernel_run (c : Dev nD) (E : Set ℕ)
    (arg0 : Memref sig .tc .vmem S1x2000 .f32) (harg0 : arg0.IsWhole) (arg1 : Memref sig .tc .vmem S7x2000 .f32) (harg1 : arg1.IsWhole)
    (arg2 : Memref sig .tc .vmem S7x2000 .f32) (harg2 : arg2.IsWhole) (arg3 : Memref sig .tc .vmem S7x2000 .f32) (harg3 : arg3.IsWhole)
    (arg4 : Memref sig .tc .vmem S1x2000 .f32) (harg4 : arg4.IsWhole)
    (s : Vec F S1x2000 .f32) (d a : Vec F S7x2000 .f32) (K : PUnit → sProp 𝕄) :
    iprop(owns (c : Thread nD τ) arg0 fullShare s ∗ owns (c : Thread nD τ) arg1 fullShare d ∗ owns (c : Thread nD τ) arg2 fullShare a
        ∗ (∃ x, owns (c : Thread nD τ) arg3 fullShare x) ∗ (∃ x, owns (c : Thread nD τ) arg4 fullShare x)
        ∗ (iprop(owns (c : Thread nD τ) arg0 fullShare s ∗ owns (c : Thread nD τ) arg1 fullShare d ∗ owns (c : Thread nD τ) arg2 fullShare a
            ∗ owns (c : Thread nD τ) arg3 fullShare (decoded a d) ∗ owns (c : Thread nD τ) arg4 fullShare (kept a d)) -∗ K ⟨⟩))
      ⊢ wp frame (wpE (defs₀ (F := F)) Variants.none c none) E
          (cc0__decode_nms_kernel arg0 harg0 arg1 harg1 arg2 harg2 arg3 harg3 arg4 harg4) K := by
  simp only [cc0__decode_nms_kernel_eq_skeleton]; unfold cc0__decode_nms_kernel_skel
  simp only [k0_part2_eq_skeleton, region_ret]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7 _)
  iexists _; isplitr
  swap; · iexact H4
  ipureintro
  exact View.read_writes_eq_canon _ _ _ (cover1 _)

/-! ## The proof data of the one region -/

/-- On core `c`: the arrays as the region finds them; after the body each input's buffer at its block, the outputs' at
    `decoded` and `kept` of the blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => decoded (iblk m c 2 t) (iblk m c 1 t)
    | ⟨4, _⟩ => kept (iblk m c 2 t) (iblk m c 1 t)
  Φ _ := Pipeline.ΦA spec0 c
  q _ := fullShare
  owed _ := 0

/-- The proof data's arrays are the contents at region entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = decoded (iblk m c 2 t) (iblk m c 1 t) := by dsimp only [dats]
theorem after_4 (c : Dev nD) (t : Fin cfg0.N) : (dats m 0 c).after 4 t = kept (iblk m c 2 t) (iblk m c 1 t) := by dsimp only [dats]

/-- Each input's staging buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at the grid point: `kernel_run` at the staged blocks. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (kernel_run c Set.univ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's row of the label table at point `t`. -/
theorem body_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

/-- Every final state has the pipeline's arrays at what the proof data compute, every other unscoped buffer at what the
    host lines after the region leave, and every semaphore counter at zero. -/
abbrev Post : PUnit × MemSt nD τ sig (Elt F) → Prop := fun r =>
  Pipeline.FramePost cfgs (dats m) 0
      (Pipeline.afterTail₀ cfgs (dats m) 0 (V0 m) [hostOps1, hostOps1_1, hostOps1_2, hostOps1_3, hostOps1_4, hostOps1_5]) r
    ∧ r.2.sem = fun _ => 0

-- the launch theorem's implicit arguments are found by unifying its conclusion with this one, unfolding plain definitions
set_option backward.isDefEq.respectTransparency.types false in
set_option maxHeartbeats 2000000 in
/-- From any memory with zero counters every weakly fair execution of @main terminates in a state of `Post`. -/
theorem run_main : θ_run defs (onTc (τ := τ) (main (F := F))) (s₀ m ρ) (Post m) :=
  Pipeline.θ_run_frame_around (Q' := _) cfgs (dats m) (0 : Fin 1) launch0 defs₀ Variants.none m ρ main
    (hbody := fun c => (body_obligation m c).loose) (hshare := fun c w => (dats m 0 c).share_full (fun _ => rfl) w)
    (howed := fun _ _ => rfl) (V₀ := V0 m)
    (opss := [hostOps1, hostOps1_1, hostOps1_2, hostOps1_3, hostOps1_4, hostOps1_5])
    (hsub := sfx_sub) (hfresh := sfx_fresh) (hkeep := sfx_keeps)
    (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main m ρ))

/-- The arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main m ρ))

end Cert.Proof.KI

end
-- ==== Proof.KernelIdealTrip.lean ====
/-
  What the kernel's body computes, in plain terms. `box` is the decoded box of a lane, from the anchors' and the deltas'
  blocks; the seven stored rows are its coordinates (`decoded_rows`), and one suppression trip strikes out the lanes the
  trip's box beats (`trip_at`).
-/
module

public import proofs.«01_k».proof.Proof.KernelIdealRun
public import proofs.«01_k».proof.Proof.Spec
public import Idealize.ShloMosaic.Lib.Pointwise

@[expose] public section

set_option maxRecDepth 16384

noncomputable section

namespace Cert.Proof.KI

open Cert.KernelIdeal Cert.KernelIdeal.Gen Cert.Proof.Spec
open Idealize.ShloMosaic Idealize.ShloMosaic.TcCoe

/-- The decoded box of lane `j`. -/
def box (a d : Vec Ideal S7x2000 .f32) (j : Fin 2000) : Fin 7 → EReal :=
  decode (fun r => a (ix2 r j)) (fun r => d (ix2 r j))

/-- The seven decoded rows hold, in lane `j`, the coordinates of its box. -/
theorem decoded_rows (a d : Vec Ideal S7x2000 .f32) (r : Fin 7) (j : Fin 2000) :
    k0_pay16 a d (ix2 r j) = box a d j r := by
  pointwise [k0_pay16, k0_pay15, k0_pay14, k0_pay13, k0_pay12, k0_pay11, k0_pay9, k0_pay10, k0_pay7, k0_pay8]
  fin_cases r <;> simp [box, decode]

/-- The four edges and the area of a lane's box. -/
theorem x1_at (a d : Vec Ideal S7x2000 .f32) (j : Fin 2000) : k0_pay17 a d (ix2 0 j) = lo (box a d j 0) (box a d j 3) := by
  pointwise [k0_pay17, k0_pay14, k0_pay12, k0_pay11, k0_pay9, k0_pay10, k0_pay7, k0_pay8]
  rfl
theorem x2_at (a d : Vec Ideal S7x2000 .f32) (j : Fin 2000) : k0_pay18 a d (ix2 0 j) = hi (box a d j 0) (box a d j 3) := by
  pointwise [k0_pay18, k0_pay14, k0_pay12, k0_pay11, k0_pay9, k0_pay10, k0_pay7, k0_pay8]
  rfl
theorem y1_at (a d : Vec Ideal S7x2000 .f32) (j : Fin 2000) : k0_pay19 a d (ix2 0 j) = lo (box a d j 1) (box a d j 4) := by
  pointwise [k0_pay19, k0_pay15, k0_pay13, k0_pay11, k0_pay9, k0_pay10, k0_pay7, k0_pay8]
  rfl
theorem y2_at (a d : Vec Ideal S7x2000 .f32) (j : Fin 2000) : k0_pay20 a d (ix2 0 j) = hi (box a d j 1) (box a d j 4) := by
  pointwise [k0_pay20, k0_pay15, k0_pay13, k0_pay11, k0_pay9, k0_pay10, k0_pay7, k0_pay8]
  rfl
theorem area_at (a d : Vec Ideal S7x2000 .f32) (j : Fin 2000) :
    k0_pay1 (k0_pay14 a d) (k0_pay15 a d) (ix2 0 j) = box a d j 3 * box a d j 4 := by
  pointwise [k0_pay1, k0_pay15, k0_pay14, k0_pay9, k0_pay10, k0_pay7, k0_pay8]
  rfl

/-- The suppression mask of one trip over any five rows: lane `j` is struck out if it overlaps lane `k` by more than the
    threshold, comes after it, and lane `k`'s flag is above one half. -/
theorem mask_at (x1 x2 y1 y2 ar w l : FVec Ideal S1x2000 .f32) (k : Fin k0_t1_loop.trips) (k' : Fin 2000) (hk : k'.val = k.val)
    (keep : FVec Ideal S1x2000 .f32) (j : Fin 2000) (har : ar = k0_pay1 w l) :
    k0_pay5 x1 x2 y1 y2 ar lanes (k0_pay2 w l x1 x2 y1 y2) 0#32 1#32 k keep (ix2 0 j)
      = BitVec.ofBool
        (decide (thr < Ideal.div
            (overlap (x1 (ix2 0 k')) (x2 (ix2 0 k')) (x1 (ix2 0 j)) (x2 (ix2 0 j))
              * overlap (y1 (ix2 0 k')) (y2 (ix2 0 k')) (y1 (ix2 0 j)) (y2 (ix2 0 j)))
            (ar (ix2 0 k') + ar (ix2 0 j)
              - overlap (x1 (ix2 0 k')) (x2 (ix2 0 k')) (x1 (ix2 0 j)) (x2 (ix2 0 j))
                * overlap (y1 (ix2 0 k')) (y2 (ix2 0 k')) (y1 (ix2 0 j)) (y2 (ix2 0 j)) + eps))
          && decide (k'.val < j.val) && decide (half < keep (ix2 0 k'))) := by
  subst har
  pointwise [k0_pay5, lanes, k0_pay2, iv_eq, ← hk, sum_select_lane, cmpi_sgt_lane]
  simp only [Finset.univ_unique, Finset.sum_singleton, andi_ofBool]
  rfl

/-- One trip: lane `j`'s flag is set to zero if box `k` is flagged above one half, comes earlier and overlaps box `j` by
    more than the threshold; otherwise it stays. -/
theorem trip_at (a d : Vec Ideal S7x2000 .f32) (k : Fin k0_t1_loop.trips) (k' : Fin 2000) (hk : k'.val = k.val)
    (keep : FVec Ideal S1x2000 .f32) (j : Fin 2000) :
    trip a d k keep (ix2 0 j)
      = if decide (thr < iou (box a d k') (box a d j)) && decide (k'.val < j.val) && decide (half < keep (ix2 0 k')) then 0
        else keep (ix2 0 j) := by
  have h := mask_at (k0_pay17 a d) (k0_pay18 a d) (k0_pay19 a d) (k0_pay20 a d)
    (k0_pay1 (k0_pay14 a d) (k0_pay15 a d)) (k0_pay14 a d) (k0_pay15 a d) k k' hk keep j rfl
  simp only [x1_at, x2_at, y1_at, y2_at, area_at] at h
  show Scalar.select (k0_pay5 _ _ _ _ _ _ _ _ _ _ _ (ix2 0 j)) (k0_pay6 (F := Ideal) (ix2 0 j)) (keep (ix2 0 j)) = _
  rw [h, select_ofBool, show k0_pay6 (F := Ideal) (ix2 0 j) = 0 from by pointwise [k0_pay6]]
  rfl

/-- The last carried row, in lane `j`: one if box `j` is kept after all 2000 turns, zero if it was struck out. -/
theorem lastKeep_at (a d : Vec Ideal S7x2000 .f32) (j : Fin 2000) :
    lastKeep a d (ix2 0 j) = if keepB (box a d) 2000 j then 1 else 0 := by
  have hn : k0_t1_loop.trips = 2000 := by decide +kernel
  have key := foldl_finRange_inv (trip a d) (fun k keep => ∀ j : Fin 2000, keep (ix2 0 j) = if keepB (box a d) k j then (1 : EReal) else 0)
    (k0_pay3 (F := Ideal)) (fun j => by pointwise [k0_pay3]; rfl) (fun k keep ih j => by
      have hk : k.val < 2000 := lt_of_lt_of_eq k.isLt hn
      rw [trip_at a d k ⟨k.val, hk⟩ rfl keep j, ih, ih, keepB_succ (box a d) ⟨k.val, hk⟩ j]
      generalize decide (thr < iou (box a d ⟨k.val, hk⟩) (box a d j)) = p
      generalize decide ((⟨k.val, hk⟩ : Fin 2000).val < j.val) = q
      cases keepB (box a d) k.val j <;> cases keepB (box a d) k.val ⟨k.val, hk⟩ <;> cases p <;> cases q <;>
        simp [half_lt_one, not_half_lt_zero])
  rw [lastKeep, Scf.fold_eq]
  exact (key j).trans (by rw [hn])

end Cert.Proof.KI

end
-- ==== Proof.KernelIdealValue.lean ====
/-
  What `KernelIdeal`'s run leaves in its result: the arrays the pipeline writes are the decoded rows and the mask of the
  whole arrays it reads, and the host operations around the region make the result of them.
-/
module

public import proofs.«01_k».proof.Proof.KernelIdealHost
public import proofs.«01_k».proof.Proof.Result
public import proofs.«01_k».proof.Proof.KernelIdealTrip
public import Idealize.ShloMosaic.Lib.Pipeline.ValueKit

@[expose] public section

set_option maxRecDepth 16384

noncomputable section

namespace Cert.Proof.KI

open Cert.KernelIdeal Cert.KernelIdeal.Gen Cert.Proof.Shared Cert.Proof.Spec
open Idealize.ShloMosaic Idealize.ShloMosaic.TcCoe Idealize.ShloMosaic.Pipeline
open Idealize.SL.Sem

variable (m : (ℓ : Loc nD τ sig) → Buf (Elt Ideal) ℓ) (ρ : Dev nD → PrngReg)

/-! ## The region's arrays -/

/-- Every window's block is its whole array. -/
theorem idx : ∀ t : Fin cfg0.N, win0_1.index t = ![0, 0] ∧ win0_2.index t = ![0, 0] ∧ win0_3.index t = ![0, 0] ∧ win0_4.index t = ![0, 0] :=
  (by decide +kernel : ∀ t : Fin grid0.N, _)

/-- The block of deltas is their array, -/
theorem deltas_blk (c : Dev nD) : iblk m c 1 t0_0 = V m c main_v14 := by
  blk_ext! [iblk, idx t0_0]

/-- and the block of anchors theirs. -/
theorem anchors_blk (c : Dev nD) : iblk m c 2 t0_0 = V m c main_v17 := by
  blk_ext! [iblk, idx t0_0]

/-- The array of decoded rows after the run. -/
theorem decoded_array (c : Dev nD) : (dats m 0 c).arrAt 3 cfg0.N = k0_pay16 (V m c main_v17) (V m c main_v14) := by
  refine (dats m 0 c).arrAt_eq_of_after_last 3 t0_0 (by decide +kernel) _ fun j => ?_
  blk_simp
  rw [after_3, deltas_blk, anchors_blk]
  unfold decoded
  frame_out

/-- The mask's array after the run. -/
theorem kept_array (c : Dev nD) : (dats m 0 c).arrAt 4 cfg0.N = lastKeep (V m c main_v17) (V m c main_v14) := by
  refine (dats m 0 c).arrAt_eq_of_after_last 4 t0_0 (by decide +kernel) _ fun j => ?_
  blk_simp
  rw [after_4, deltas_blk, anchors_blk]
  unfold kept
  frame_out

/-! ## The mask and the boxes, of the candidates' anchor and delta rows -/

/-- The kernel reads the rows transposed: the boxes it decodes are the candidates'. -/
theorem box_transpose (A D : FVec Ideal S2000x7 .f32) :
    box (transpose S7x2000 [1, 0] A transposes_S2000x7_S7x2000_1_0) (transpose S7x2000 [1, 0] D transposes_S2000x7_S7x2000_1_0) = boxesOf A D := by
  funext j
  unfold box boxesOf
  congr 1 <;> funext r <;> pointwise

/-- The decoded rows transposed back are the table of boxes. -/
theorem table_eq (A D : FVec Ideal S7x2000 .f32) :
    transpose S2000x7 [1, 0] (k0_pay16 A D) transposes_S7x2000_S2000x7_1_0 = tableOf (box A D) := by
  funext i
  idx_vars i
  refine Eq.trans ?_ (decoded_rows A D _ _)
  pointwise

/-- A mask entry above a half is one whose candidate is kept. -/
theorem keepBits_eq (A D : FVec Ideal S7x2000 .f32) : keepBits (lastKeep A D) = bitsOf (box A D) 2000 := by
  funext j
  obtain ⟨i, rfl⟩ : ∃ i : Fin 2000, j = ix1 i := ⟨j 0, eq_ix1 j⟩
  have h : keepBits (lastKeep A D) (ix1 i) = BitVec.ofBool (decide (half < (lastKeep (F := Ideal) A D : FVec Ideal S1x2000 .f32) (ix2 (0 : Fin 1) i))) := by
    pointwise [keepBits]
  refine h.trans ?_
  rw [lastKeep_at]
  show _ = BitVec.ofBool (keepB (box A D) 2000 i)
  cases keepB (box A D) 2000 i <;> simp [half_lt_one, not_half_lt_zero]

/-! ## The result -/

/-- What the host operations after the region leave in the result. -/
theorem tail_result (c : Dev nD) :
    Pipeline.afterTail₀ cfgs (dats m) 0 (V0 m) [hostOps1, hostOps1_1, hostOps1_2, hostOps1_3, hostOps1_4, hostOps1_5] c main_v28
      = result (m ((c.tc : Thread nD τ).loc main_arg0)) (m ((c.tc : Thread nD τ).loc main_arg1)) (m ((c.tc : Thread nD τ).loc main_arg2)) := by
  unfold Pipeline.afterTail₀
  rw [post_result]
  rw [show Pipeline.withArrays (cfgs 0).spec c (V0 m c) (fun w => (dats m 0 c).arrAt w (cfgs 0).N) (main_v18_1 : DevRef τ sig)
      = lastKeep (V m c main_v17) (V m c main_v14) from
      (Pipeline.withArrays_arr spec0 launch0.win.arr_inj c (V0 m c) _ 4).trans (kept_array m c),
    show Pipeline.withArrays (cfgs 0).spec c (V0 m c) (fun w => (dats m 0 c).arrAt w (cfgs 0).N) (main_v18_0 : DevRef τ sig)
      = k0_pay16 (V m c main_v17) (V m c main_v14) from
      (Pipeline.withArrays_arr spec0 launch0.win.arr_inj c (V0 m c) _ 3).trans (decoded_array m c),
    show Pipeline.withArrays (cfgs 0).spec c (V0 m c) (fun w => (dats m 0 c).arrAt w (cfgs 0).N) (main_values : DevRef τ sig)
      = V0 m c (main_values : DevRef τ sig) from
      (Pipeline.withArrays_arr spec0 launch0.win.arr_inj c (V0 m c) _ 0).trans (((dats m 0 c).arrAt_in 0 rfl _).trans (A_eq m c 0))]
  rw [keepBits_eq, table_eq, pre_values, show V m c main_v17 = _ from pre_anchors _, show V m c main_v14 = _ from pre_deltas _, box_transpose]
  rfl

/-- Every run ends with the result in `main_v28` and the arguments unchanged. -/
theorem run_result : θ_run defs (onTc (τ := τ) (main (F := Ideal))) ⟨m, fun _ => 0, ρ⟩ (fun r => ∀ c : Dev nD,
      r.2.mem ((c.tc : Thread nD τ).loc main_v28)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r h c => ⟨((h.1.1 c).2 main_v28 (Pipeline.mem_restRefs_of main_v28 (by decide) (by decide))).trans (tail_result m c), h.2 c⟩)
    (θ_run_and (run_main m ρ) (unchanged m ρ))

end Cert.Proof.KI

end
-- ==== Proof.ReferenceRun.lean ====
/-
  The reference's run. `run_fold` says every buffer ends at one fold over its stretches of host operations and its
  2000 loop trips. Here: what the stretches after the loop write; that a buffer no trip writes is kept by every trip; and
  `frame`, that the arguments end unchanged and every counter at zero.
-/
module

public import proofs.«01_k».proof.Proof.Gen.ReferenceIdeal.Run
public import Idealize.ShloMosaic.Lib.Quiescent

@[expose] public section

set_option maxRecDepth 16384

noncomputable section

namespace Cert.Proof.RI

open Cert.ReferenceIdeal Cert.ReferenceIdeal.Gen Cert.ReferenceIdeal.Value

open Idealize.ShloMosaic Idealize.ShloMosaic.TcCoe Idealize.ShloMosaic.StableHlo
open Idealize.SL.Sem

variable {F : FTy → Type} [FloatOps F]

/-! ## What the stretches after the loop write -/

/-- What `hostOps0_9` writes, in order. -/
abbrev hostOps0_9_W : List (Ref sig .tc) := [main_cst_10]
theorem hostOps0_9_writes : (hostOps0_9 : List (HloOp τ sig (Elt F))).Forall fun op => op.writes ⊆ (hostOps0_9_W.map (Proc.devRef (τ := τ) .tc)).toFinset :=
  StableHlo.forall_writes_sub_of_map rfl

/-- What `hostOps0_10` writes, in order. -/
abbrev hostOps0_10_W : List (Ref sig .tc) := [main_call4_v0, main_call4_v1, main_v128]
theorem hostOps0_10_writes : (hostOps0_10 : List (HloOp τ sig (Elt F))).Forall fun op => op.writes ⊆ (hostOps0_10_W.map (Proc.devRef (τ := τ) .tc)).toFinset :=
  StableHlo.forall_writes_sub_of_map rfl

/-- What `hostOps0_11` writes, in order. -/
abbrev hostOps0_11_W : List (Ref sig .tc) := [main_values_11, main_indices_12]
theorem hostOps0_11_writes : (hostOps0_11 : List (HloOp τ sig (Elt F))).Forall fun op => op.writes ⊆ (hostOps0_11_W.map (Proc.devRef (τ := τ) .tc)).toFinset :=
  StableHlo.forall_writes_sub_of_map rfl

/-- What `hostOps0_12` writes, in order. -/
abbrev hostOps0_12_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v129]
theorem hostOps0_12_writes : (hostOps0_12 : List (HloOp τ sig (Elt F))).Forall fun op => op.writes ⊆ (hostOps0_12_W.map (Proc.devRef (τ := τ) .tc)).toFinset :=
  StableHlo.forall_writes_sub_of_map rfl

/-- What `hostOps0_13` writes, in order. -/
abbrev hostOps0_13_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v130]
theorem hostOps0_13_writes : (hostOps0_13 : List (HloOp τ sig (Elt F))).Forall fun op => op.writes ⊆ (hostOps0_13_W.map (Proc.devRef (τ := τ) .tc)).toFinset :=
  StableHlo.forall_writes_sub_of_map rfl

/-- What `hostOps0_14` writes, in order. -/
abbrev hostOps0_14_W : List (Ref sig .tc) := [main_v131, main_v132]
theorem hostOps0_14_writes : (hostOps0_14 : List (HloOp τ sig (Elt F))).Forall fun op => op.writes ⊆ (hostOps0_14_W.map (Proc.devRef (τ := τ) .tc)).toFinset :=
  StableHlo.forall_writes_sub_of_map rfl

/-! ## Buffers that nothing writes -/

variable (m : (ℓ : Loc nD τ sig) → Buf (Elt F) ℓ) (ρ : Dev nD → PrngReg)

/-- A buffer neither the loop's condition nor its body writes is, before every trip, what it was on entry. -/
theorem atK_keep (c : Dev nD) {r : Ref sig .tc} (hc : r ∉ condOps_W) (hb : r ∉ while0Ops0_W) :
    ∀ k : ℕ, atK m k c (Proc.devRef .tc r) = entryContents preI m c (Proc.devRef .tc r)
  | 0 => rfl
  | k + 1 => (after_of_writes_sub while0Ops0 _ while0Ops0_writes hb).trans
      ((after_of_writes_sub condOps _ condOps_writes hc).trans (atK_keep c hc hb k))

/-- A buffer no stretch before the loop writes holds on entry what it held at launch. -/
theorem entry_keep (c : Dev nD) {r : Ref sig .tc}
    (hr : r ∉ hostOps0_W ++ hostOps0_1_W ++ hostOps0_2_W ++ hostOps0_3_W ++ hostOps0_4_W ++ hostOps0_5_W ++ hostOps0_6_W ++ hostOps0_7_W ++ hostOps0_8_W) :
    entryContents preI m c (Proc.devRef .tc r) = m ((c.tc : Thread nD τ).loc r) := by
  simp only [List.mem_append, not_or] at hr
  obtain ⟨⟨⟨⟨⟨⟨⟨⟨h0, h1⟩, h2⟩, h3⟩, h4⟩, h5⟩, h6⟩, h7⟩, h8⟩ := hr
  show after hostOps0_8 (after hostOps0_7 (after hostOps0_6 (after hostOps0_5 (after hostOps0_4 (after hostOps0_3 (after hostOps0_2 (after hostOps0_1 (after hostOps0 _)))))))) _ = _
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer no stretch after the loop writes is kept by all of them. -/
theorem post_keep (V : Valuation τ sig (Elt F)) {r : Ref sig .tc}
    (hr : r ∉ hostOps0_9_W ++ hostOps0_10_W ++ hostOps0_11_W ++ hostOps0_12_W ++ hostOps0_13_W ++ hostOps0_14_W) :
    afterL postI V (Proc.devRef .tc r) = V (Proc.devRef .tc r) := by
  simp only [List.mem_append, not_or] at hr
  obtain ⟨⟨⟨⟨⟨h9, h10⟩, h11⟩, h12⟩, h13⟩, h14⟩ := hr
  show after hostOps0_14 (after hostOps0_13 (after hostOps0_12 (after hostOps0_11 (after hostOps0_10 (after hostOps0_9 V))))) _ = _
  rw [after_of_writes_sub hostOps0_14 _ hostOps0_14_writes h14, after_of_writes_sub hostOps0_13 _ hostOps0_13_writes h13,
    after_of_writes_sub hostOps0_12 _ hostOps0_12_writes h12, after_of_writes_sub hostOps0_11 _ hostOps0_11_writes h11,
    after_of_writes_sub hostOps0_10 _ hostOps0_10_writes h10, after_of_writes_sub hostOps0_9 _ hostOps0_9_writes h9]

/-- An argument ends as it began. -/
theorem arg_keep (c : Dev nD) {r : Ref sig .tc}
    (hpre : r ∉ hostOps0_W ++ hostOps0_1_W ++ hostOps0_2_W ++ hostOps0_3_W ++ hostOps0_4_W ++ hostOps0_5_W ++ hostOps0_6_W ++ hostOps0_7_W ++ hostOps0_8_W)
    (hc : r ∉ condOps_W) (hb : r ∉ while0Ops0_W)
    (hpost : r ∉ hostOps0_9_W ++ hostOps0_10_W ++ hostOps0_11_W ++ hostOps0_12_W ++ hostOps0_13_W ++ hostOps0_14_W) :
    finalContents condOps preI bodyI postI 2000 m c (Proc.devRef .tc r) = m ((c.tc : Thread nD τ).loc r) :=
  (post_keep _ hpost).trans ((after_of_writes_sub condOps _ condOps_writes hc).trans ((atK_keep m c hc hb 2000).trans (entry_keep m c hpre)))

/-- The three arguments end as they began. -/
theorem args_keep (c : Dev nD) :
    finalContents condOps preI bodyI postI 2000 m c (Proc.devRef .tc main_arg0) = m ((c.tc : Thread nD τ).loc main_arg0)
    ∧ finalContents condOps preI bodyI postI 2000 m c (Proc.devRef .tc main_arg1) = m ((c.tc : Thread nD τ).loc main_arg1)
    ∧ finalContents condOps preI bodyI postI 2000 m c (Proc.devRef .tc main_arg2) = m ((c.tc : Thread nD τ).loc main_arg2) :=
  ⟨arg_keep m c (by decide +kernel) (by decide +kernel) (by decide +kernel) (by decide +kernel),
    arg_keep m c (by decide +kernel) (by decide +kernel) (by decide +kernel) (by decide +kernel),
    arg_keep m c (by decide +kernel) (by decide +kernel) (by decide +kernel) (by decide +kernel)⟩

/-- The arguments end unchanged and every semaphore counter ends at zero: the program has no semaphore. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun r h =>
    ⟨fun c => ⟨(h c main_arg0 rfl).trans (args_keep m c).1, (h c main_arg1 rfl).trans (args_keep m c).2.1,
      (h c main_arg2 rfl).trans (args_keep m c).2.2⟩, sem_eq_zero_of_no_sems rfl r.2⟩) (run_fold m ρ)

end Cert.Proof.RI

end
-- ==== Proof.ReferenceHost.lean ====
/-
  The reference's host operations before its loop that select and decode the candidates, and those after its loop that
  select the kept ones, read stretch by stretch as functions of what they read.
-/
module

public import proofs.«01_k».proof.Proof.ReferenceRun
public import proofs.«01_k».proof.Proof.Result

@[expose] public section

set_option maxRecDepth 16384

noncomputable section

namespace Cert.Proof.RI

open Cert.ReferenceIdeal Cert.ReferenceIdeal.Gen Cert.ReferenceIdeal.Value Cert.Proof.Shared
open Idealize.ShloMosaic Idealize.ShloMosaic.TcCoe Idealize.ShloMosaic.StableHlo

variable (V : Valuation τ sig (Elt Ideal))

/-! ## The candidates' anchor and delta rows -/

/-- The first stretch leaves the delta rows, -/
theorem h0_deltas : after hostOps0 V (main_v11 : DevRef τ sig) = deltaRows (V (main_arg1 : DevRef τ sig)) := by
  after_results
  rfl

/-- the indices of the best anchors, -/
theorem h0_idx : after hostOps0 V (main_v12 : DevRef τ sig) = bestIdx (V (main_arg0 : DevRef τ sig)) := by
  after_results
  rfl

/-- the same as the selection returned them, -/
theorem h0_indices : shapeCast S2000 (after hostOps0 V (main_indices : DevRef τ sig)) shapeCasts_S1x2000_S2000 = bestIdx (V (main_arg0 : DevRef τ sig)) := by
  after_results
  rfl

/-- and their scores. -/
theorem h0_values : shapeCast S2000 (after hostOps0 V (main_values : DevRef τ sig)) shapeCasts_S1x2000_S2000 = best (V (main_arg0 : DevRef τ sig)) := by
  after_results
  rfl

/-- The second gathers the delta rows. -/
theorem h1_deltas : after hostOps0_1 V (main_v13 : DevRef τ sig) = takeTop (V (main_v11 : DevRef τ sig)) (V (main_v12 : DevRef τ sig)) := by
  after_results
  rfl

/-- The third lays the indices out in a line. -/
theorem h2_idx : after hostOps0_2 V (main_v14 : DevRef τ sig) = shapeCast S2000 (V (main_indices : DevRef τ sig)) shapeCasts_S1x2000_S2000 := by
  after_results
  rfl

/-- The fourth gathers the anchor rows. -/
theorem h3_anchors : after hostOps0_3 V (main_v15 : DevRef τ sig) = takeTop (V (main_arg2 : DevRef τ sig)) (V (main_v14 : DevRef τ sig)) := by
  after_results
  rfl

/-- What the first four stretches make of a memory. -/
def rowsAt : Valuation τ sig (Elt Ideal) := after hostOps0_3 (after hostOps0_2 (after hostOps0_1 (after hostOps0 V)))

theorem rows_deltas : rowsAt V (main_v13 : DevRef τ sig) = takeTop (deltaRows (V (main_arg1 : DevRef τ sig))) (bestIdx (V (main_arg0 : DevRef τ sig))) := by
  unfold rowsAt
  rw [after_of_writes_sub hostOps0_3 _ hostOps0_3_writes (by decide), after_of_writes_sub hostOps0_2 _ hostOps0_2_writes (by decide),
    h1_deltas, h0_deltas, h0_idx]

theorem rows_anchors : rowsAt V (main_v15 : DevRef τ sig) = takeTop (V (main_arg2 : DevRef τ sig)) (bestIdx (V (main_arg0 : DevRef τ sig))) := by
  unfold rowsAt
  rw [h3_anchors, h2_idx, after_of_writes_sub hostOps0_2 _ hostOps0_2_writes (r := main_arg2) (by decide),
    after_of_writes_sub hostOps0_1 _ hostOps0_1_writes (r := main_arg2) (by decide), after_of_writes_sub hostOps0 _ hostOps0_writes (r := main_arg2) (by decide),
    after_of_writes_sub hostOps0_1 _ hostOps0_1_writes (r := main_indices) (by decide), h0_indices]

theorem rows_values : shapeCast S2000 (rowsAt V (main_values : DevRef τ sig)) shapeCasts_S1x2000_S2000 = best (V (main_arg0 : DevRef τ sig)) := by
  unfold rowsAt
  rw [after_of_writes_sub hostOps0_3 _ hostOps0_3_writes (by decide), after_of_writes_sub hostOps0_2 _ hostOps0_2_writes (by decide),
    after_of_writes_sub hostOps0_1 _ hostOps0_1_writes (by decide), h0_values]

/-! ## The stretches after the loop -/

theorem t0_low : after hostOps0_9 V (main_cst_10 : DevRef τ sig) = (constant S_ .f32 0xCE6E6B28#32 : FVec Ideal S_ .f32) := by
  after_results

/-- They mask the scores, -/
theorem t1_masked (h : V (main_cst_10 : DevRef τ sig) = (constant S_ .f32 0xCE6E6B28#32 : FVec Ideal S_ .f32)) :
    after hostOps0_10 V (main_v128 : DevRef τ sig) = masked (V (main_v127_4 : DevRef τ sig)) (V (main_v69 : DevRef τ sig)) := by
  after_results
  rw [h]
  rfl

/-- select the 500 best, -/
theorem t2_idx : after hostOps0_11 V (main_indices_12 : DevRef τ sig) = pick (V (main_v128 : DevRef τ sig)) := by
  after_results
  rfl

/-- gather their boxes and their scores -/
theorem t3_boxes : after hostOps0_12 V (main_v129 : DevRef τ sig) = takeBox (V (main_v68 : DevRef τ sig)) (V (main_indices_12 : DevRef τ sig)) := by
  after_results
  rfl
theorem t4_scores : after hostOps0_13 V (main_v130 : DevRef τ sig) = takeScore (V (main_v69 : DevRef τ sig)) (V (main_indices_12 : DevRef τ sig)) := by
  after_results
  rfl

/-- and put them side by side. -/
theorem t5_joined : after hostOps0_14 V (main_v132 : DevRef τ sig) = joined (V (main_v129 : DevRef τ sig)) (V (main_v130 : DevRef τ sig)) := by
  after_results
  rfl

/-- After the loop: the result, from the bits, the scores and the boxes. -/
theorem post_result : afterL postI V (main_v132 : DevRef τ sig)
    = finish (V (main_v127_4 : DevRef τ sig)) (V (main_v69 : DevRef τ sig)) (V (main_v68 : DevRef τ sig)) := by
  show after hostOps0_14 (after hostOps0_13 (after hostOps0_12 (after hostOps0_11 (after hostOps0_10 (after hostOps0_9 V))))) (main_v132 : DevRef τ sig) = _
  rw [t5_joined, t4_scores, after_of_writes_sub hostOps0_13 _ hostOps0_13_writes (r := main_v129) (by decide), t3_boxes,
    after_of_writes_sub hostOps0_12 _ hostOps0_12_writes (r := main_v69) (by decide),
    after_of_writes_sub hostOps0_12 _ hostOps0_12_writes (r := main_indices_12) (by decide), t2_idx,
    after_of_writes_sub hostOps0_11 _ hostOps0_11_writes (r := main_v69) (by decide),
    after_of_writes_sub hostOps0_11 _ hostOps0_11_writes (r := main_v68) (by decide), t1_masked _ (t0_low V),
    after_of_writes_sub hostOps0_10 _ hostOps0_10_writes (r := main_v69) (by decide),
    after_of_writes_sub hostOps0_10 _ hostOps0_10_writes (r := main_v68) (by decide),
    after_of_writes_sub hostOps0_9 _ hostOps0_9_writes (r := main_v127_4) (by decide),
    after_of_writes_sub hostOps0_9 _ hostOps0_9_writes (r := main_v69) (by decide),
    after_of_writes_sub hostOps0_9 _ hostOps0_9_writes (r := main_v68) (by decide)]
  rfl

end Cert.Proof.RI

end
-- ==== Proof.ReferenceIou.lean ====
/-
  The reference's host operations that decode the candidates' boxes and tabulate the overlap of every pair of them.
-/
module

public import proofs.«01_k».proof.Proof.ReferenceRun
public import proofs.«01_k».proof.Proof.Result
public import Idealize.ShloMosaic.Lib.Pointwise

@[expose] public section

set_option maxRecDepth 16384

noncomputable section

namespace Cert.Proof.RI

open Cert.ReferenceIdeal Cert.ReferenceIdeal.Gen Cert.ReferenceIdeal.Value Cert.Proof.Shared Cert.Proof.Spec
open Idealize.ShloMosaic Idealize.ShloMosaic.TcCoe Idealize.ShloMosaic.StableHlo

variable (V : Valuation τ sig (Elt Ideal))

/-- The stretch that decodes, up to the columns of the table of boxes; -/
abbrev opsA : List (HloOp τ sig (Elt Ideal)) := hostOps0_4.take 52
/-- the operation that puts them side by side; -/
abbrev opsT : List (HloOp τ sig (Elt Ideal)) := (hostOps0_4.drop 52).take 1
/-- and the rest. -/
abbrev opsB : List (HloOp τ sig (Elt Ideal)) := (hostOps0_4.drop 52).drop 1

theorem ops_split : after hostOps0_4 V = after opsB (after opsT (after opsA V)) := by
  rw [← after_append, ← after_append, List.take_append_drop, List.take_append_drop]

/-- The columns, one after another. -/
theorem col0_at (j : Fin 2000) : after opsA V (main_v61 : DevRef τ sig) (ix2 j (0 : Fin 1))
    = boxesOf (V (main_v15 : DevRef τ sig)) (V (main_v13 : DevRef τ sig)) j 0 := by
  simp only [List.take_succ_cons, List.take_zero]
  after_results
  pointwise
  rfl
theorem col1_at (j : Fin 2000) : after opsA V (main_v62 : DevRef τ sig) (ix2 j (0 : Fin 1))
    = boxesOf (V (main_v15 : DevRef τ sig)) (V (main_v13 : DevRef τ sig)) j 1 := by
  simp only [List.take_succ_cons, List.take_zero]
  after_results
  pointwise
  rfl
theorem col2_at (j : Fin 2000) : after opsA V (main_v63 : DevRef τ sig) (ix2 j (0 : Fin 1))
    = boxesOf (V (main_v15 : DevRef τ sig)) (V (main_v13 : DevRef τ sig)) j 2 := by
  simp only [List.take_succ_cons, List.take_zero]
  after_results
  pointwise
  rfl
theorem col3_at (j : Fin 2000) : after opsA V (main_v64 : DevRef τ sig) (ix2 j (0 : Fin 1))
    = boxesOf (V (main_v15 : DevRef τ sig)) (V (main_v13 : DevRef τ sig)) j 3 := by
  simp only [List.take_succ_cons, List.take_zero]
  after_results
  pointwise
  rfl
theorem col4_at (j : Fin 2000) : after opsA V (main_v65 : DevRef τ sig) (ix2 j (0 : Fin 1))
    = boxesOf (V (main_v15 : DevRef τ sig)) (V (main_v13 : DevRef τ sig)) j 4 := by
  simp only [List.take_succ_cons, List.take_zero]
  after_results
  pointwise
  rfl
theorem col5_at (j : Fin 2000) : after opsA V (main_v66 : DevRef τ sig) (ix2 j (0 : Fin 1))
    = boxesOf (V (main_v15 : DevRef τ sig)) (V (main_v13 : DevRef τ sig)) j 5 := by
  simp only [List.take_succ_cons, List.take_zero]
  after_results
  pointwise
  rfl
theorem col6_at (j : Fin 2000) : after opsA V (main_v67 : DevRef τ sig) (ix2 j (0 : Fin 1))
    = boxesOf (V (main_v15 : DevRef τ sig)) (V (main_v13 : DevRef τ sig)) j 6 := by
  simp only [List.take_succ_cons, List.take_zero]
  after_results
  pointwise
  rfl

/-- The columns side by side. -/
theorem table_cols : after opsT V (main_v68 : DevRef τ sig)
    = concatenate S2000x7 1 [⟨S2000x1, V (main_v61 : DevRef τ sig)⟩, ⟨S2000x1, V (main_v62 : DevRef τ sig)⟩, ⟨S2000x1, V (main_v63 : DevRef τ sig)⟩,
        ⟨S2000x1, V (main_v64 : DevRef τ sig)⟩, ⟨S2000x1, V (main_v65 : DevRef τ sig)⟩, ⟨S2000x1, V (main_v66 : DevRef τ sig)⟩,
        ⟨S2000x1, V (main_v67 : DevRef τ sig)⟩] concatenates_S2000x1_S2000x1_S2000x1_S2000x1_S2000x1_S2000x1_S2000x1_S2000x7_d1 := by
  unfold opsT
  simp only [List.drop_succ_cons, List.drop_zero, List.take_succ_cons, List.take_zero]
  simp only [after_cons, after_nil]
  rw [nary_result]
  rfl

/-- The table of boxes. -/
theorem table_eq : after opsT (after opsA V) (main_v68 : DevRef τ sig)
    = tableOf (boxesOf (V (main_v15 : DevRef τ sig)) (V (main_v13 : DevRef τ sig))) := by
  rw [table_cols]
  funext i
  obtain ⟨j, r, rfl⟩ : ∃ (j : Fin 2000) (r : Fin 7), i = ix2 j r := ⟨i 0, i 1, eq_ix2 i⟩
  show _ = boxesOf (V (main_v15 : DevRef τ sig)) (V (main_v13 : DevRef τ sig)) j r
  fin_cases r
  · refine Eq.trans ?_ (col0_at V j); pointwise
  · refine Eq.trans ?_ (col1_at V j); pointwise
  · refine Eq.trans ?_ (col2_at V j); pointwise
  · refine Eq.trans ?_ (col3_at V j); pointwise
  · refine Eq.trans ?_ (col4_at V j); pointwise
  · refine Eq.trans ?_ (col5_at V j); pointwise
  · refine Eq.trans ?_ (col6_at V j); pointwise

/-! ## The ends, the areas and the overlaps, of the table of boxes -/

/-- Box `j` of a table. -/
def rowOf (T : FVec Ideal S2000x7 .f32) (j : Fin 2000) : Fin 7 → EReal := fun r => T (ix2 j r)

theorem rest_table : after opsB V (main_v68 : DevRef τ sig) = V (main_v68 : DevRef τ sig) := by
  unfold opsB
  simp only [List.drop_succ_cons, List.drop_zero]
  after_results
theorem rest_scores : after opsB V (main_v69 : DevRef τ sig) = shapeCast S2000 (V (main_values : DevRef τ sig)) shapeCasts_S1x2000_S2000 := by
  unfold opsB
  simp only [List.drop_succ_cons, List.drop_zero]
  after_results
  rfl
theorem y1_at (j : Fin 2000) : after opsB V (main_v86 : DevRef τ sig) (ix1 j)
    = lo (rowOf (V (main_v68 : DevRef τ sig)) j 1) (rowOf (V (main_v68 : DevRef τ sig)) j 4) := by
  unfold opsB
  simp only [List.drop_succ_cons, List.drop_zero]
  after_results
  pointwise
  rfl
theorem y2_at (j : Fin 2000) : after opsB V (main_v89 : DevRef τ sig) (ix1 j)
    = hi (rowOf (V (main_v68 : DevRef τ sig)) j 1) (rowOf (V (main_v68 : DevRef τ sig)) j 4) := by
  unfold opsB
  simp only [List.drop_succ_cons, List.drop_zero]
  after_results
  pointwise
  rfl
theorem area_at (j : Fin 2000) : after opsB V (main_v90 : DevRef τ sig) (ix1 j)
    = rowOf (V (main_v68 : DevRef τ sig)) j 3 * rowOf (V (main_v68 : DevRef τ sig)) j 4 := by
  unfold opsB
  simp only [List.drop_succ_cons, List.drop_zero]
  after_results
  pointwise
  rfl
theorem xdiff_at (i j : Fin 2000) : after opsB V (main_v101 : DevRef τ sig) (ix2 i j)
    = min (hi (rowOf (V (main_v68 : DevRef τ sig)) i 0) (rowOf (V (main_v68 : DevRef τ sig)) i 3))
          (hi (rowOf (V (main_v68 : DevRef τ sig)) j 0) (rowOf (V (main_v68 : DevRef τ sig)) j 3))
      - max (lo (rowOf (V (main_v68 : DevRef τ sig)) i 0) (rowOf (V (main_v68 : DevRef τ sig)) i 3))
          (lo (rowOf (V (main_v68 : DevRef τ sig)) j 0) (rowOf (V (main_v68 : DevRef τ sig)) j 3)) := by
  unfold opsB
  simp only [List.drop_succ_cons, List.drop_zero]
  after_results
  pointwise
  rfl
theorem xzero : after opsB V (main_cst_5 : DevRef τ sig) = (constant S_ .f32 0x00000000#32 : FVec Ideal S_ .f32) := by
  unfold opsB
  simp only [List.drop_succ_cons, List.drop_zero]
  after_results

/-- A gap counts as no overlap: the larger of zero and each difference. -/
def positive (X : FVec Ideal S2000x2000 .f32) : FVec Ideal S2000x2000 .f32 :=
  maximumf (broadcastInDim S2000x2000 ![] bcast_S_S2000x2000 (constant S_ .f32 0x00000000#32)) X
theorem positive_at (X : FVec Ideal S2000x2000 .f32) (i j : Fin 2000) : positive X (ix2 i j) = max (0 : EReal) (X (ix2 i j)) := by
  pointwise [positive]

/-- The smaller of two upper ends less the larger of two lower ends, for every pair. -/
def gaps (l h : FVec Ideal S2000 .f32) : FVec Ideal S2000x2000 .f32 :=
  subf
    (minimumf (broadcastInDim S2000x2000 ![0, 1] bcast_S2000x1_S2000x2000_0_1 (broadcastInDim S2000x1 ![0] bcast_S2000_S2000x1_0 h))
      (broadcastInDim S2000x2000 ![0, 1] bcast_S1x2000_S2000x2000_0_1 (broadcastInDim S1x2000 ![1] bcast_S2000_S1x2000_1 h)))
    (maximumf (broadcastInDim S2000x2000 ![0, 1] bcast_S2000x1_S2000x2000_0_1 (broadcastInDim S2000x1 ![0] bcast_S2000_S2000x1_0 l))
      (broadcastInDim S2000x2000 ![0, 1] bcast_S1x2000_S2000x2000_0_1 (broadcastInDim S1x2000 ![1] bcast_S2000_S1x2000_1 l)))
theorem gaps_at (l h : FVec Ideal S2000 .f32) (i j : Fin 2000) :
    gaps l h (ix2 i j) = (min (h (ix1 i)) (h (ix1 j)) : EReal) - (max (l (ix1 i)) (l (ix1 j)) : EReal) := by
  pointwise [gaps]

theorem xover_eq (h : V (main_cst_5 : DevRef τ sig) = (constant S_ .f32 0x00000000#32 : FVec Ideal S_ .f32)) :
    after hostOps0_5 V (main_v102 : DevRef τ sig) = positive (V (main_v101 : DevRef τ sig)) := by
  after_results
  rw [h]
  rfl
theorem ydiff_eq : after hostOps0_6 V (main_v113 : DevRef τ sig) = gaps (V (main_v86 : DevRef τ sig)) (V (main_v89 : DevRef τ sig)) := by
  after_results
  rfl
theorem yzero : after hostOps0_6 V (main_cst_6 : DevRef τ sig) = (constant S_ .f32 0x00000000#32 : FVec Ideal S_ .f32) := by
  after_results
theorem yover_eq (h : V (main_cst_6 : DevRef τ sig) = (constant S_ .f32 0x00000000#32 : FVec Ideal S_ .f32)) :
    after hostOps0_7 V (main_v114 : DevRef τ sig) = positive (V (main_v113 : DevRef τ sig)) := by
  after_results
  rw [h]
  rfl

/-! ## What the loop carries in -/

/-- The quotient for every pair, of the overlaps along the two axes and the areas. -/
def quots (X Y : FVec Ideal S2000x2000 .f32) (A : FVec Ideal S2000 .f32) : FVec Ideal S2000x2000 .f32 :=
  Host.divf (mulf X Y)
    (addf
      (subf
        (addf (broadcastInDim S2000x2000 ![0, 1] bcast_S2000x1_S2000x2000_0_1 (broadcastInDim S2000x1 ![0] bcast_S2000_S2000x1_0 A))
          (broadcastInDim S2000x2000 ![0, 1] bcast_S1x2000_S2000x2000_0_1 (broadcastInDim S1x2000 ![1] bcast_S2000_S1x2000_1 A)))
        (mulf X Y))
      (broadcastInDim S2000x2000 ![] bcast_S_S2000x2000 (constant S_ .f32 0x3089705F#32)))
theorem quots_at (X Y : FVec Ideal S2000x2000 .f32) (A : FVec Ideal S2000 .f32) (i j : Fin 2000) :
    quots X Y A (ix2 i j)
      = Ideal.div (X (ix2 i j) * Y (ix2 i j) : EReal) ((A (ix1 i) + A (ix1 j) : EReal) - (X (ix2 i j) * Y (ix2 i j) : EReal) + eps) := by
  pointwise [quots]

/-- The loop carries in the quotients, -/
theorem quots_eq : after hostOps0_8 V (main_v127_0 : DevRef τ sig)
    = quots (V (main_v102 : DevRef τ sig)) (V (main_v114 : DevRef τ sig)) (V (main_v90 : DevRef τ sig)) := by
  after_results
  rfl
/-- the candidates' numbers, -/
theorem numbers_eq : after hostOps0_8 V (main_v127_1 : DevRef τ sig) = iotaInDim S2000 32 0 := by
  after_results
  rfl
/-- the number of the first candidate to have its turn, -/
theorem first_eq : after hostOps0_8 V (main_v127_3 : DevRef τ sig) = constantI S_ 32 0#32 := by
  after_results
  rfl
/-- and every candidate kept. -/
theorem all_eq : after hostOps0_8 V (main_v127_4 : DevRef τ sig) = broadcastInDim S2000 ![] bcast_S_S2000 (constantI S_ 1 1#1) := by
  after_results
  rfl

end Cert.Proof.RI

end
-- ==== Proof.ReferenceLoop.lean ====
/-
  One trip of the reference's loop, and what the loop carries before each trip.
-/
module

public import proofs.«01_k».proof.Proof.ReferenceRun
public import proofs.«01_k».proof.Proof.Result
public import Idealize.ShloMosaic.Lib.Pointwise
public import Idealize.ShloMosaic.Lib.WordArith
public import Idealize.ShloMosaic.Lib.DynamicIndex

@[expose] public section

set_option maxRecDepth 16384

noncomputable section

namespace Cert.Proof.RI

open Cert.ReferenceIdeal Cert.ReferenceIdeal.Gen Cert.ReferenceIdeal.Value Cert.Proof.Shared Cert.Proof.Spec
open Idealize.ShloMosaic Idealize.ShloMosaic.TcCoe Idealize.ShloMosaic.StableHlo

/-- A candidate's number as the loop uses it for an offset: a negative one would count from the end. -/
def wrapNumber (n : IVec S_ 32) : IVec S_ 32 := select (cmpi .slt n (constantI S_ 32 0#32)) (addi n (constantI S_ 32 2000#32)) n

/-- Candidate `n`'s quotients with all the others. -/
def quotRow (Q : FVec Ideal S2000x2000 .f32) (n : IVec S_ 32) : FVec Ideal S2000 .f32 :=
  shapeCast S2000 (Host.dynamicSlice S1x2000 Q
    (fun k => (((![wrapNumber n, wrapNumber (constantI S_ 32 0#32)] : Fin 2 → IVec S_ 32)) k (Shape.Idx.first h_S_)).toInt) sliceFits_S2000x2000_S1x2000)
    shapeCasts_S1x2000_S2000

/-- Whether candidate `n` is kept. -/
def keepOne (K : IVec S2000 1) (n : IVec S_ 32) : IVec S_ 1 :=
  shapeCast S_ (Host.dynamicSlice S1 K (fun k => (((![wrapNumber n] : Fin 1 → IVec S_ 32)) k (Shape.Idx.first h_S_)).toInt) sliceFits_S2000_S1) shapeCasts_S1_S_

/-- The kept candidates after candidate `n` has had its turn. -/
def turn (Q : FVec Ideal S2000x2000 .f32) (N : IVec S2000 32) (n : IVec S_ 32) (K : IVec S2000 1) : IVec S2000 1 :=
  andi K (noti (andi
    (andi (cmpf .ogt (quotRow Q n) (broadcastInDim S2000 ![] bcast_S_S2000 (constant S_ .f32 0x3F333333#32)))
      (cmpi .sgt N (broadcastInDim S2000 ![] bcast_S_S2000 n)))
    (broadcastInDim S2000 ![] bcast_S_S2000 (keepOne K n))))

theorem step_eq (V : Valuation τ sig (Elt Ideal)) : step_main_v127_4 V
    = turn (V (main_v127_0 : DevRef τ sig)) (V (main_v127_1 : DevRef τ sig)) (V (main_v127_3 : DevRef τ sig)) (V (main_v127_4 : DevRef τ sig)) := rfl

/-- The number `k` as a scalar word. -/
abbrev num (k : ℕ) : IVec S_ 32 := constantI S_ 32 (BitVec.ofNat 32 k)

/-- A candidate's number is not negative: as an offset it is itself. -/
theorem wrapNumber_num (k : ℕ) (hk : k < 2000) (i : S_.Idx) : (wrapNumber (num k) i).toInt = (k : ℤ) := by
  have e : (BitVec.ofNat 32 k).toInt = (k : ℤ) := WordArith.toInt_ofNat_small k (by omega)
  have h : wrapNumber (num k) i = Scalar.select (IntOp.cmpi .slt (BitVec.ofNat 32 k) 0#32) (IntOp.addi (BitVec.ofNat 32 k) 2000#32) (BitVec.ofNat 32 k) := rfl
  have hn : IntOp.cmpi .slt (BitVec.ofNat 32 k) 0#32 = BitVec.ofBool false := by
    show BitVec.ofBool ((BitVec.ofNat 32 k).slt 0#32) = _
    congr 1
    rw [BitVec.slt, e]
    simp
  rw [h, hn, select_ofBool]
  exact e

theorem quotRow_at (Q : FVec Ideal S2000x2000 .f32) (k j : Fin 2000) : quotRow Q (num k.val) (ix1 j) = Q (ix2 k j) := by
  have hk := k.isLt
  have hoff : S2000x2000.Slices ![k.val, 0] S1x2000 := ⟨rfl, fun a => by fin_cases a <;> simp <;> omega⟩
  unfold quotRow
  rw [Host.dynamicSlice_eq_extractStridedSlice S1x2000 Q _ ![k.val, 0] _ hoff (fun a => by
    fin_cases a
    · exact wrapNumber_num k.val hk (Shape.Idx.first h_S_)
    · exact wrapNumber_num 0 (by omega) (Shape.Idx.first h_S_))]
  pointwise

theorem keepOne_at (K : IVec S2000 1) (k : Fin 2000) (i : S_.Idx) : keepOne K (num k.val) i = K (ix1 k) := by
  have hk := k.isLt
  have hoff : S2000.Slices ![k.val] S1 := ⟨rfl, fun a => by fin_cases a; simp⟩
  unfold keepOne
  rw [Host.dynamicSlice_eq_extractStridedSlice S1 K _ ![k.val] _ hoff (fun a => by
    fin_cases a
    exact wrapNumber_num k.val hk (Shape.Idx.first h_S_))]
  pointwise

/-- One turn, at a candidate. -/
theorem turn_at (B : Fin 2000 → Fin 7 → EReal) (Q : FVec Ideal S2000x2000 .f32) (hQ : ∀ i j : Fin 2000, Q (ix2 i j) = iou (B i) (B j)) (k : Fin 2000) :
    turn Q (iotaInDim S2000 32 0) (num k.val) (bitsOf B k.val) = bitsOf B (k.val + 1) := by
  funext i
  obtain ⟨j, rfl⟩ : ∃ j : Fin 2000, i = ix1 j := ⟨i 0, eq_ix1 i⟩
  show _ = BitVec.ofBool (keepB B (k.val + 1) j)
  rw [keepB_succ]
  pointwise [turn, quotRow_at, keepOne_at, cmpi_sgt_lane, hQ]
  show IntOp.andi (BitVec.ofBool (keepB B k.val j)) (~~~IntOp.andi
      (IntOp.andi (BitVec.ofBool (decide (thr < iou (B k) (B j)))) (BitVec.ofBool (decide (k.val < j.val))))
      (BitVec.ofBool (keepB B k.val k))) = _
  generalize keepB B k.val j = a
  generalize keepB B k.val k = b
  generalize decide (thr < iou (B k) (B j)) = p
  generalize decide (k.val < j.val) = q
  cases a <;> cases b <;> cases p <;> cases q <;> rfl

/-- The number of the next candidate. -/
theorem num_succ (k : ℕ) : id (addi (num k) (constantI S_ 32 1#32)) = num (k + 1) := by
  funext i
  show BitVec.ofNat 32 k + 1#32 = BitVec.ofNat 32 (k + 1)
  exact (BitVec.ofNat_add k 1).symm

/-- THE LOOP'S INVARIANT. From contents whose quotients are those of the boxes `B`, whose numbers count from zero and
    whose candidates are all kept, `k` trips leave the quotients and the numbers, the number `k`, and kept the candidates
    that `k` turns keep. -/
theorem steps (B : Fin 2000 → Fin 7 → EReal) (E : Valuation τ sig (Elt Ideal))
    (hQ : ∀ i j : Fin 2000, (E (main_v127_0 : DevRef τ sig) : FVec Ideal S2000x2000 .f32) (ix2 i j) = iou (B i) (B j))
    (hN : E (main_v127_1 : DevRef τ sig) = iotaInDim S2000 32 0) (hn : E (main_v127_3 : DevRef τ sig) = num 0)
    (hK : E (main_v127_4 : DevRef τ sig) = bitsOf B 0) : ∀ k : ℕ, k ≤ 2000 →
      (STEP^[k] E) (main_v127_0 : DevRef τ sig) = E (main_v127_0 : DevRef τ sig)
      ∧ (STEP^[k] E) (main_v127_1 : DevRef τ sig) = iotaInDim S2000 32 0
      ∧ (STEP^[k] E) (main_v127_3 : DevRef τ sig) = num k
      ∧ (STEP^[k] E) (main_v127_4 : DevRef τ sig) = bitsOf B k
  | 0, _ => ⟨rfl, hN, hn, hK⟩
  | k + 1, hk => by
    obtain ⟨h0, h1, h3, h4⟩ := steps B E hQ hN hn hK k (by omega)
    rw [Function.iterate_succ_apply']
    refine ⟨(STEP_main_v127_0 _).trans h0, (STEP_main_v127_1 _).trans h1, (STEP_main_v127_3 _).trans ?_, (STEP_main_v127_4 _).trans ?_⟩
    · unfold step_main_v127_3
      rw [h3]
      exact num_succ k
    · rw [step_eq, h0, h1, h3, h4]
      exact turn_at B _ hQ ⟨k, by omega⟩

end Cert.Proof.RI

end
-- ==== Proof.ReferenceValue.lean ====
/-
  What the reference's run leaves in its result: the host operations before the loop give the candidates' boxes and
  scores and the overlap of every pair, the loop the kept candidates, and the operations after it the result of them.
-/
module

public import proofs.«01_k».proof.Proof.ReferenceHost
public import proofs.«01_k».proof.Proof.ReferenceIou
public import proofs.«01_k».proof.Proof.ReferenceLoop

@[expose] public section

set_option maxRecDepth 16384

noncomputable section

namespace Cert.Proof.RI

open Cert.ReferenceIdeal Cert.ReferenceIdeal.Gen Cert.ReferenceIdeal.Value Cert.Proof.Shared Cert.Proof.Spec
open Idealize.ShloMosaic Idealize.ShloMosaic.TcCoe Idealize.ShloMosaic.StableHlo
open Idealize.SL.Sem

/-! ## The stretches that tabulate the overlaps, together -/

section
variable (R : Valuation τ sig (Elt Ideal))

/-- The candidates' boxes, of the rows the selection left. -/
abbrev boxes (j : Fin 2000) : Fin 7 → EReal := boxesOf (R (main_v15 : DevRef τ sig)) (R (main_v13 : DevRef τ sig)) j

/-- The contents once the table of boxes is written, -/
def tab : Valuation τ sig (Elt Ideal) := after opsT (after opsA R)
/-- once the ends are, -/
def ends : Valuation τ sig (Elt Ideal) := after opsB (tab R)
/-- and as the loop finds them. -/
def entry : Valuation τ sig (Elt Ideal) := after hostOps0_8 (after hostOps0_7 (after hostOps0_6 (after hostOps0_5 (ends R))))

/-- A row of the table is a candidate's box. -/
theorem rowOf_tab (j : Fin 2000) : rowOf (tab R (main_v68 : DevRef τ sig)) j = boxes R j := by
  unfold rowOf tab
  rw [table_eq]
  rfl

/-- The loop finds the boxes' table, -/
theorem entry_table : entry R (main_v68 : DevRef τ sig) = tableOf (boxes R) := by
  unfold entry ends tab
  rw [after_of_writes_sub hostOps0_8 _ hostOps0_8_writes (r := main_v68) (by decide),
    after_of_writes_sub hostOps0_7 _ hostOps0_7_writes (r := main_v68) (by decide),
    after_of_writes_sub hostOps0_6 _ hostOps0_6_writes (r := main_v68) (by decide),
    after_of_writes_sub hostOps0_5 _ hostOps0_5_writes (r := main_v68) (by decide), rest_table, table_eq]

/-- Nothing up to the table of boxes writes the selected scores. -/
theorem tab_values : tab R (main_values : DevRef τ sig) = R (main_values : DevRef τ sig) := by
  have hT : (opsT : List (HloOp τ sig (Elt Ideal))).Forall fun op => op.writes ⊆ (hostOps0_4_W.map (Proc.devRef (τ := τ) .tc)).toFinset :=
    List.forall_iff_forall_mem.2 fun op h => List.forall_iff_forall_mem.1 hostOps0_4_writes op (List.mem_of_mem_drop (List.mem_of_mem_take h))
  have hA : (opsA : List (HloOp τ sig (Elt Ideal))).Forall fun op => op.writes ⊆ (hostOps0_4_W.map (Proc.devRef (τ := τ) .tc)).toFinset :=
    List.forall_iff_forall_mem.2 fun op h => List.forall_iff_forall_mem.1 hostOps0_4_writes op (List.mem_of_mem_take h)
  unfold tab
  rw [after_of_writes_sub opsT _ hT (r := main_values) (by decide), after_of_writes_sub opsA _ hA (r := main_values) (by decide)]

/-- the scores, -/
theorem entry_scores : entry R (main_v69 : DevRef τ sig) = shapeCast S2000 (R (main_values : DevRef τ sig)) shapeCasts_S1x2000_S2000 := by
  unfold entry ends
  rw [after_of_writes_sub hostOps0_8 _ hostOps0_8_writes (r := main_v69) (by decide),
    after_of_writes_sub hostOps0_7 _ hostOps0_7_writes (r := main_v69) (by decide),
    after_of_writes_sub hostOps0_6 _ hostOps0_6_writes (r := main_v69) (by decide),
    after_of_writes_sub hostOps0_5 _ hostOps0_5_writes (r := main_v69) (by decide), rest_scores, tab_values]

/-- and the overlap of every pair of boxes. -/
theorem entry_quots (i j : Fin 2000) :
    (entry R (main_v127_0 : DevRef τ sig) : FVec Ideal S2000x2000 .f32) (ix2 i j) = iou (boxes R i) (boxes R j) := by
  unfold entry ends
  rw [quots_eq, yover_eq _ (yzero _),
    after_of_writes_sub hostOps0_7 _ hostOps0_7_writes (r := main_v102) (by decide),
    after_of_writes_sub hostOps0_7 _ hostOps0_7_writes (r := main_v90) (by decide),
    after_of_writes_sub hostOps0_6 _ hostOps0_6_writes (r := main_v102) (by decide),
    after_of_writes_sub hostOps0_6 _ hostOps0_6_writes (r := main_v90) (by decide), ydiff_eq, xover_eq _ (xzero _),
    after_of_writes_sub hostOps0_5 _ hostOps0_5_writes (r := main_v90) (by decide),
    after_of_writes_sub hostOps0_5 _ hostOps0_5_writes (r := main_v86) (by decide),
    after_of_writes_sub hostOps0_5 _ hostOps0_5_writes (r := main_v89) (by decide),
    quots_at, positive_at, positive_at, gaps_at, xdiff_at, area_at, area_at, y1_at, y1_at, y2_at, y2_at, rowOf_tab, rowOf_tab]
  rfl

end

/-! ## The run -/

variable (m : (ℓ : Loc nD τ sig) → Buf (Elt Ideal) ℓ) (ρ : Dev nD → PrngReg)

/-- The contents at launch. -/
abbrev launch (c : Dev nD) : Valuation τ sig (Elt Ideal) := fun b => m (c, b)

theorem entry_eq (c : Dev nD) : entryContents preI m c = entry (rowsAt (launch m c)) := by
  show after hostOps0_8 (after hostOps0_7 (after hostOps0_6 (after hostOps0_5 (after hostOps0_4 (rowsAt (launch m c)))))) = _
  rw [ops_split]
  rfl

/-- The kept candidates after the loop. -/
theorem loop_bits (c : Dev nD) : atK m 2000 c (main_v127_4 : DevRef τ sig) = bitsOf (boxes (rowsAt (launch m c))) 2000 := by
  refine (atK_agree m c 2000 main_v127_4 (by decide)).trans ?_
  rw [entry_eq]
  refine (steps (boxes (rowsAt (launch m c))) _ (entry_quots _) (numbers_eq _) (first_eq _) ?_ 2000 le_rfl).2.2.2
  unfold entry
  rw [all_eq]
  rfl

/-- The result buffer after the run. -/
theorem final_result (c : Dev nD) : finalContents condOps preI bodyI postI 2000 m c (main_v132 : DevRef τ sig)
    = result (m ((c.tc : Thread nD τ).loc main_arg0)) (m ((c.tc : Thread nD τ).loc main_arg1)) (m ((c.tc : Thread nD τ).loc main_arg2)) := by
  show afterL postI (after condOps (atK m 2000 c)) (main_v132 : DevRef τ sig) = _
  rw [post_result, after_of_writes_sub condOps _ condOps_writes (r := main_v127_4) (by decide),
    after_of_writes_sub condOps _ condOps_writes (r := main_v69) (by decide),
    after_of_writes_sub condOps _ condOps_writes (r := main_v68) (by decide), loop_bits,
    atK_keep m c (r := main_v69) (by decide) (by decide), atK_keep m c (r := main_v68) (by decide) (by decide), entry_eq,
    entry_scores, entry_table, rows_values]
  unfold boxes
  rw [rows_anchors, rows_deltas]
  rfl

/-- Every run ends with the result in `main_v132` and the arguments unchanged. -/
theorem run_result : θ_run (defs (F := Ideal)) (onTc (τ := τ) (main (F := Ideal))) ⟨m, fun _ => 0, ρ⟩ (fun r => ∀ c : Dev nD,
      r.2.mem ((c.tc : Thread nD τ).loc main_v132)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨(h c main_v132 rfl).trans (final_result m c), (h c main_arg0 rfl).trans (args_keep m c).1,
      (h c main_arg1 rfl).trans (args_keep m c).2.1, (h c main_arg2 rfl).trans (args_keep m c).2.2⟩) (run_fold m ρ)

end Cert.Proof.RI

end
-- ==== Proof.lean ====
module

public import proofs.«01_k».proof.Defs
public import proofs.«01_k».proof.Proof.KernelRun
public import proofs.«01_k».proof.Proof.KernelIdealValue
public import proofs.«01_k».proof.Proof.ReferenceValue

@[expose] public section

noncomputable section

namespace Cert.Proof

open Idealize.ShloMosaic Idealize.SL.Sem in
/-- From memories agreeing on the arguments, the kernel and the reference end with the same boxes and scores: each ends
    with the one result, the same function of the arguments. -/
theorem algebraic : Cert.algebraic_KernelIdeal_ReferenceIdeal := by
  intro m g m' g' _ hargs
  refine ⟨fun c => Shared.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), KI.run_result m g, ?_⟩
  refine (θ_run _ _ _).mono (fun r h c => ⟨(h c).1.trans ?_, (h c).2⟩) (RI.run_result m' g')
  rw [(hargs c).1, (hargs c).2.1, (hargs c).2.2]

/-- Everything the certificate claims: each program leaves its arguments as they were and its counters at zero, the
    idealized kernel is the kernel's own text, and over the extended reals the kernel computes what the reference does. -/
theorem claim : Cert.Claim :=
  ⟨Cert.Kernel.Gen.facts, Cert.KernelIdeal.Gen.facts, Cert.ReferenceIdeal.Gen.facts,
    fun m g _ => Cert.Proof.K.frame m g, fun m g _ => Cert.Proof.KI.frame m g, fun m g _ => Cert.Proof.RI.frame m g,
    trivial, algebraic⟩

end Cert.Proof

end
